-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_bounded [hPre_router_bounded : Cert.Pre_router_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_router_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_bounded [hPre_router_bounded : Cert.Pre_router_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_router_bounded [hKernelIdeal : Cert.KernelIdeal.Facts] [hPre_router_bounded : Cert.Pre_router_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_router_bounded [hReferenceIdeal : Cert.ReferenceIdeal.Facts] [hPre_router_bounded : Cert.Pre_router_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_sqrt_dim" .f32 0x3D13CD3A#32 (((Real.sqrt 768)⁻¹ : ℝ) : EReal)

def algebraic_KernelIdeal_ReferenceIdeal_pre_router_bounded [hKernelIdeal : Cert.KernelIdeal.Facts] [hReferenceIdeal : Cert.ReferenceIdeal.Facts] [hPre_router_bounded : Cert.Pre_router_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_router_bounded : Cert.Pre_router_bounded.Facts),
    quiescent_Kernel (hKernel := hKernel)
    ∧ quiescent_KernelIdeal (hKernelIdeal := hKernelIdeal)
    ∧ quiescent_KernelIdeal_pre_router_bounded (hKernelIdeal := hKernelIdeal) (hPre_router_bounded := hPre_router_bounded)
    ∧ quiescent_ReferenceIdeal (hReferenceIdeal := hReferenceIdeal)
    ∧ quiescent_ReferenceIdeal_pre_router_bounded (hReferenceIdeal := hReferenceIdeal) (hPre_router_bounded := hPre_router_bounded)
    ∧ preserves_Kernel_KernelIdeal
    ∧ algebraic_KernelIdeal_ReferenceIdeal_pre_router_bounded (hKernelIdeal := hKernelIdeal) (hReferenceIdeal := hReferenceIdeal) (hPre_router_bounded := hPre_router_bounded)
-- ==== Pre_router_bounded.lean ====
abbrev S1x2048x768 : Shape := ⟨3, ![1, 2048, 768]⟩
abbrev S_ : Shape := ⟨0, ![]⟩
abbrev S768x768 : Shape := ⟨2, ![768, 768]⟩
abbrev S8x768 : Shape := ⟨2, ![8, 768]⟩
abbrev S8 : Shape := ⟨1, ![8]⟩
abbrev S8x1536x768 : Shape := ⟨3, ![8, 1536, 768]⟩
abbrev S8x768x1536 : Shape := ⟨3, ![8, 768, 1536]⟩

class Facts : Prop where
  bcast_S_S8x768 : S_.BroadcastsInDim S8x768 (![] : Fin 0 → Fin S8x768.rank)
  reducesTo_S8x768_S_d0_1 : S8x768.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S1x2048x768 .f32) (main_arg1 : IVec S_ 32) (main_arg2 : FVec F S768x768 .f32) (main_arg3 : FVec F S8x768 .f32) (main_arg4 : FVec F S8 .f32) (main_arg5 : FVec F S8x1536x768 .f32) (main_arg6 : FVec F S8x768x1536 .f32) : IVec S_ 1 :=
  let main_cst : FVec F S_ .f32 := constant S_ .f32 0x6A800000#32
  let main_v0 : FVec F S8x768 .f32 := broadcastInDim S8x768 ![] bcast_S_S8x768 main_cst
  let main_v1 : IVec S8x768 1 := cmpf .ole main_arg3 main_v0
  let main_cst_0 : FVec F S_ .f32 := constant S_ .f32 0xEA800000#32
  let main_v2 : FVec F S8x768 .f32 := broadcastInDim S8x768 ![] bcast_S_S8x768 main_cst_0
  let main_v3 : IVec S8x768 1 := cmpf .oge main_arg3 main_v2
  let main_v4 : IVec S8x768 1 := andi main_v1 main_v3
  let main_c : IVec S_ 1 := constantI S_ 1 1#1
  let main_v5 : IVec S_ 1 := (fun x v => Host.reduce IntOp.andi x v reducesTo_S8x768_S_d0_1 h_S_) main_v4 main_c
  let main_cst_1 : FVec F S_ .f32 := constant S_ .f32 0xF1000000#32
  let main_v6 : FVec F S8 .f32 := broadcastInDim S8 ![] bcast_S_S8 main_cst_1
  let main_v7 : IVec S8 1 := cmpf .oge main_arg4 main_v6
  let main_c_2 : IVec S_ 1 := constantI S_ 1 1#1
  let main_v8 : IVec S_ 1 := (fun x v => Host.reduce IntOp.andi x v reducesTo_S8_S_d0 h_S_) main_v7 main_c_2
  let main_v9 : IVec S_ 1 := andi main_v5 main_v8
  let main_c_3 : IVec S_ 32 := constantI S_ 32 2147483680#32
  let main_v10 : IVec S_ 1 := cmpi .sge main_arg1 main_c_3
  let main_v11 : IVec S_ 1 := andi main_v9 main_v10
  main_v11
-- ==== Kernel.lean ====
abbrev S1x2048x768 : Shape := ⟨3, ![1, 2048, 768]⟩
abbrev S_ : Shape := ⟨0, ![]⟩
abbrev S768x768 : Shape := ⟨2, ![768, 768]⟩
abbrev S8x768 : Shape := ⟨2, ![8, 768]⟩
abbrev S8 : Shape := ⟨1, ![8]⟩
abbrev S8x1536x768 : Shape := ⟨3, ![8, 1536, 768]⟩
abbrev S8x768x1536 : Shape := ⟨3, ![8, 768, 1536]⟩
abbrev S2048x768 : Shape := ⟨2, ![2048, 768]⟩
abbrev S384 : Shape := ⟨1, ![384]⟩
abbrev S8x384 : Shape := ⟨2, ![8, 384]⟩
abbrev S1 : Shape := ⟨1, ![1]⟩
abbrev S128x768 : Shape := ⟨2, ![128, 768]⟩
abbrev S128 : Shape := ⟨1, ![128]⟩
abbrev S1x128 : Shape := ⟨2, ![1, 128]⟩
abbrev S8x128 : Shape := ⟨2, ![8, 128]⟩
abbrev S2048x128 : Shape := ⟨2, ![2048, 128]⟩
abbrev S256x768 : Shape := ⟨2, ![256, 768]⟩
abbrev S256x128 : Shape := ⟨2, ![256, 128]⟩
abbrev S256 : Shape := ⟨1, ![256]⟩
abbrev S256x1 : Shape := ⟨2, ![256, 1]⟩
abbrev S256x384 : Shape := ⟨2, ![256, 384]⟩
abbrev S1x384 : Shape := ⟨2, ![1, 384]⟩
abbrev S1x1536x768 : Shape := ⟨3, ![1, 1536, 768]⟩
abbrev S1x768x1536 : Shape := ⟨3, ![1, 768, 1536]⟩
abbrev S1536x768 : Shape := ⟨2, ![1536, 768]⟩
abbrev S2048x1536 : Shape := ⟨2, ![2048, 1536]⟩
abbrev S768x1536 : Shape := ⟨2, ![768, 1536]⟩
abbrev S2048 : Shape := ⟨1, ![2048]⟩
abbrev S2048x1 : Shape := ⟨2, ![2048, 1]⟩

abbrev nBuf : Space → Nat
  | .hbm => 63
  | .vmem => 15
  | .smem => 0
  | _ => 0

abbrev bufTy : (tb : Table) → Fin (tcTables nBuf tb) → BufTy
  | .hbm, ⟨0, _⟩ => ⟨S1x2048x768, .f32⟩
  | .hbm, ⟨1, _⟩ => ⟨S_, .i32⟩
  | .hbm, ⟨2, _⟩ => ⟨S768x768, .f32⟩
  | .hbm, ⟨3, _⟩ => ⟨S8x768, .f32⟩
  | .hbm, ⟨4, _⟩ => ⟨S8, .f32⟩
  | .hbm, ⟨5, _⟩ => ⟨S8x1536x768, .f32⟩
  | .hbm, ⟨6, _⟩ => ⟨S8x768x1536, .f32⟩
  | .hbm, ⟨7, _⟩ => ⟨S2048x768, .f32⟩
  | .hbm, ⟨8, _⟩ => ⟨S384, .f32⟩
  | .hbm, ⟨9, _⟩ => ⟨S_, .f32⟩
  | .hbm, ⟨10, _⟩ => ⟨S384, .f32⟩
  | .hbm, ⟨11, _⟩ => ⟨S384, .f32⟩
  | .hbm, ⟨12, _⟩ => ⟨S_, .f32⟩
  | .hbm, ⟨13, _⟩ => ⟨S384, .f32⟩
  | .hbm, ⟨14, _⟩ => ⟨S384, .f32⟩
  | .hbm, ⟨15, _⟩ => ⟨S_, .f32⟩
  | .hbm, ⟨16, _⟩ => ⟨S384, .f32⟩
  | .hbm, ⟨17, _⟩ => ⟨S384, .f32⟩
  | .hbm, ⟨18, _⟩ => ⟨S_, .f32⟩
  | .hbm, ⟨19, _⟩ => ⟨S384, .f32⟩
  | .hbm, ⟨20, _⟩ => ⟨S384, .f32⟩
  | .hbm, ⟨21, _⟩ => ⟨S_, .f32⟩
  | .hbm, ⟨22, _⟩ => ⟨S384, .f32⟩
  | .hbm, ⟨23, _⟩ => ⟨S384, .f32⟩
  | .hbm, ⟨24, _⟩ => ⟨S_, .f32⟩
  | .hbm, ⟨25, _⟩ => ⟨S384, .f32⟩
  | .hbm, ⟨26, _⟩ => ⟨S384, .f32⟩
  | .hbm, ⟨27, _⟩ => ⟨S_, .f32⟩
  | .hbm, ⟨28, _⟩ => ⟨S_, .f32⟩
  | .hbm, ⟨29, _⟩ => ⟨S384, .f32⟩
  | .hbm, ⟨30, _⟩ => ⟨S384, .f32⟩
  | .hbm, ⟨31, _⟩ => ⟨S_, .f32⟩
  | .hbm, ⟨32, _⟩ => ⟨S8x384, .f32⟩
  | .hbm, ⟨33, _⟩ => ⟨S384, .f32⟩
  | .hbm, ⟨34, _⟩ => ⟨S_, .i32⟩
  | .hbm, ⟨35, _⟩ => ⟨S1, .i32⟩
  | .hbm, ⟨36, _⟩ => ⟨S8x384, .f32⟩
  | .hbm, ⟨37, _⟩ => ⟨S384, .f32⟩
  | .hbm, ⟨38, _⟩ => ⟨S_, .i32⟩
  | .hbm, ⟨39, _⟩ => ⟨S1, .i32⟩
  | .hbm, ⟨40, _⟩ => ⟨S8x384, .f32⟩
  | .hbm, ⟨41, _⟩ => ⟨S384, .f32⟩
  | .hbm, ⟨42, _⟩ => ⟨S_, .i32⟩
  | .hbm, ⟨43, _⟩ => ⟨S1, .i32⟩
  | .hbm, ⟨44, _⟩ => ⟨S8x384, .f32⟩
  | .hbm, ⟨45, _⟩ => ⟨S384, .f32⟩
  | .hbm, ⟨46, _⟩ => ⟨S_, .i32⟩
  | .hbm, ⟨47, _⟩ => ⟨S1, .i32⟩
  | .hbm, ⟨48, _⟩ => ⟨S8x384, .f32⟩
  | .hbm, ⟨49, _⟩ => ⟨S_, .f32⟩
  | .hbm, ⟨50, _⟩ => ⟨S128x768, .f32⟩
  | .hbm, ⟨51, _⟩ => ⟨S_, .i32⟩
  | .hbm, ⟨52, _⟩ => ⟨S1, .i32⟩
  | .hbm, ⟨53, _⟩ => ⟨S128x768, .f32⟩
  | .hbm, ⟨54, _⟩ => ⟨S_, .f32⟩
  | .hbm, ⟨55, _⟩ => ⟨S128, .f32⟩
  | .hbm, ⟨56, _⟩ => ⟨S_, .i32⟩
  | .hbm, ⟨57, _⟩ => ⟨S1, .i32⟩
  | .hbm, ⟨58, _⟩ => ⟨S128, .f32⟩
  | .hbm, ⟨59, _⟩ => ⟨S1x128, .f32⟩
  | .hbm, ⟨60, _⟩ => ⟨S8x128, .f32⟩
  | .hbm, ⟨61, _⟩ => ⟨S2048x128, .f32⟩
  | .hbm, ⟨62, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S768x768, .f32⟩
  | .local _ .vmem, ⟨3, _⟩ => ⟨S128x768, .f32⟩
  | .local _ .vmem, ⟨4, _⟩ => ⟨S8x128, .f32⟩
  | .local _ .vmem, ⟨5, _⟩ => ⟨S8x384, .f32⟩
  | .local _ .vmem, ⟨6, _⟩ => ⟨S256x128, .f32⟩
  | .local _ .vmem, ⟨7, _⟩ => ⟨S256x128, .f32⟩
  | .local _ .vmem, ⟨8, _⟩ => ⟨S2048x768, .f32⟩
  | .local _ .vmem, ⟨9, _⟩ => ⟨S2048x128, .f32⟩
  | .local _ .vmem, ⟨10, _⟩ => ⟨S1x1536x768, .f32⟩
  | .local _ .vmem, ⟨11, _⟩ => ⟨S1x1536x768, .f32⟩
  | .local _ .vmem, ⟨12, _⟩ => ⟨S1x768x1536, .f32⟩
  | .local _ .vmem, ⟨13, _⟩ => ⟨S1x768x1536, .f32⟩
  | .local _ .vmem, ⟨14, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_c_12 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![1, 8], ![false, false]⟩

def k1_cond1 (i : grid1.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_13 : BitVec 32 := 0#32
  let v22 : BitVec 1 := Scalar.cmpi .ne v21 c0_i32_13
  v22

def k1_cond2 (i : grid1.Coords) : BitVec 1 :=
  let arg1 : BitVec 32 := BitVec.ofNat 32 (i 1).val
  let c0_i32_14 : BitVec 32 := 0#32
  let v23 : BitVec 1 := Scalar.cmpi .sgt arg1 c0_i32_14
  let v24 : BitVec 32 := Scalar.extui v23
  let c0_i32_15 : BitVec 32 := 0#32
  let v25 : BitVec 1 := Scalar.cmpi .ne v24 c0_i32_15
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S2048x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x1536x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x768x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S2048x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]
-- ==== KernelIdeal.lean ====
variable {F : FTy → Type} [FloatOps F] [Named F]
def κ : String → Option EReal := fun
  | "inv_sqrt_dim" => some (((Real.sqrt 768)⁻¹ : ℝ) : EReal)
  | _ => none
-- ==== ReferenceIdeal.lean ====
abbrev S1x2048x768 : Shape := ⟨3, ![1, 2048, 768]⟩
abbrev S_ : Shape := ⟨0, ![]⟩
abbrev S768x768 : Shape := ⟨2, ![768, 768]⟩
abbrev S8x768 : Shape := ⟨2, ![8, 768]⟩
abbrev S8 : Shape := ⟨1, ![8]⟩
abbrev S8x1536x768 : Shape := ⟨3, ![8, 1536, 768]⟩
abbrev S8x768x1536 : Shape := ⟨3, ![8, 768, 1536]⟩
abbrev S2048x768 : Shape := ⟨2, ![2048, 768]⟩
abbrev S2048 : Shape := ⟨1, ![2048]⟩
abbrev S2048x1 : Shape := ⟨2, ![2048, 1]⟩
abbrev S384 : Shape := ⟨1, ![384]⟩
abbrev S1x384 : Shape := ⟨2, ![1, 384]⟩
abbrev S2048x384 : Shape := ⟨2, ![2048, 384]⟩
abbrev S768x8 : Shape := ⟨2, ![768, 8]⟩
abbrev S2048x8 : Shape := ⟨2, ![2048, 8]⟩
abbrev S1x8 : Shape := ⟨2, ![1, 8]⟩
abbrev S2048x2 : Shape := ⟨2, ![2048, 2]⟩
abbrev S2048x2x1 : Shape := ⟨3, ![2048, 2, 1]⟩
abbrev S1 : Shape := ⟨1, ![1]⟩
abbrev S1x1x1 : Shape := ⟨3, ![1, 1, 1]⟩
abbrev S2048x2x2 : Shape := ⟨3, ![2048, 2, 2]⟩
abbrev S2048x8x1536 : Shape := ⟨3, ![2048, 8, 1536]⟩
abbrev S8x768x2048 : Shape := ⟨3, ![8, 768, 2048]⟩
abbrev S2048x8x768 : Shape := ⟨3, ![2048, 8, 768]⟩
abbrev S2048x8x1 : Shape := ⟨3, ![2048, 8, 1]⟩

abbrev nBuf : Space → Nat
  | .hbm => 154
  | .vmem => 0
  | .smem => 0
  | _ => 0

abbrev hbmTy0_0 (i : Nat) : BufTy := match i % 128 with
  | 0 => ⟨S1x2048x768, .f32⟩
  | 1 => ⟨S_, .i32⟩
  | 2 => ⟨S768x768, .f32⟩
  | 3 => ⟨S8x768, .f32⟩
  | 4 => ⟨S8, .f32⟩
  | 5 => ⟨S8x1536x768, .f32⟩
  | 6 => ⟨S8x768x1536, .f32⟩
  | 7 => ⟨S2048x768, .f32⟩
  | 8 => ⟨S768x768, .f32⟩
  | 9 => ⟨S2048x768, .f32⟩
  | 10 => ⟨S2048x768, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x1, .f32⟩
  | 21 => ⟨S2048x768, .f32⟩
  | 22 => ⟨S2048x768, .f32⟩
  | 23 => ⟨S384, .f32⟩
  | 24 => ⟨S_, .f32⟩
  | 25 => ⟨S384, .f32⟩
  | 26 => ⟨S384, .f32⟩
  | 27 => ⟨S_, .f32⟩
  | 28 => ⟨S384, .f32⟩
  | 29 => ⟨S384, .f32⟩
  | 30 => ⟨S_, .f32⟩
  | 31 => ⟨S384, .f32⟩
  | 32 => ⟨S384, .f32⟩
  | 33 => ⟨S_, .f32⟩
  | 34 => ⟨S384, .f32⟩
  | 35 => ⟨S384, .f32⟩
  | 36 => ⟨S_, .f32⟩
  | 37 => ⟨S384, .f32⟩
  | 38 => ⟨S384, .f32⟩
  | 39 => ⟨S_, .f32⟩
  | 40 => ⟨S384, .f32⟩
  | 41 => ⟨S384, .f32⟩
  | 42 => ⟨S_, .i32⟩
  | 43 => ⟨S_, .i32⟩
  | 44 => ⟨S_, .f32⟩
  | 45 => ⟨S384, .f32⟩
  | 46 => ⟨S384, .f32⟩
  | 47 => ⟨S384, .f32⟩
  | 48 => ⟨S1x384, .f32⟩
  | 49 => ⟨S384, .f32⟩
  | 50 => ⟨S1x384, .f32⟩
  | 51 => ⟨S384, .f32⟩
  | 52 => ⟨S1x384, .f32⟩
  | 53 => ⟨S384, .f32⟩
  | 54 => ⟨S1x384, .f32⟩
  | 55 => ⟨S2048x384, .f32⟩
  | 56 => ⟨S2048x384, .f32⟩
  | 57 => ⟨S2048x384, .f32⟩
  | 58 => ⟨S2048x384, .f32⟩
  | 59 => ⟨S2048x384, .f32⟩
  | 60 => ⟨S2048x384, .f32⟩
  | 61 => ⟨S2048x384, .f32⟩
  | 62 => ⟨S1x384, .f32⟩
  | 63 => ⟨S2048x384, .f32⟩
  | 64 => ⟨S2048x384, .f32⟩
  | 65 => ⟨S2048x384, .f32⟩
  | 66 => ⟨S2048x384, .f32⟩
  | 67 => ⟨S2048x384, .f32⟩
  | 68 => ⟨S2048x768, .f32⟩
  | 69 => ⟨S768x8, .f32⟩
  | 70 => ⟨S2048x8, .f32⟩
  | 71 => ⟨S_, .f32⟩
  | 72 => ⟨S_, .f32⟩
  | 73 => ⟨S2048x8, .f32⟩
  | 74 => ⟨S2048x8, .f32⟩
  | 75 => ⟨S2048x8, .f32⟩
  | 76 => ⟨S2048x8, .f32⟩
  | 77 => ⟨S_, .f32⟩
  | 78 => ⟨S2048x8, .f32⟩
  | 79 => ⟨S2048x8, .f32⟩
  | 80 => ⟨S_, .f32⟩
  | 81 => ⟨S2048x8, .f32⟩
  | 82 => ⟨S2048x8, .f32⟩
  | 83 => ⟨S1x8, .f32⟩
  | 84 => ⟨S2048x8, .f32⟩
  | 85 => ⟨S2048x8, .f32⟩
  | 86 => ⟨S2048x2, .f32⟩
  | 87 => ⟨S2048x2, .i32⟩
  | 88 => ⟨S_, .i32⟩
  | 89 => ⟨S2048x2, .i32⟩
  | 90 => ⟨S2048x2, .i1⟩
  | 91 => ⟨S_, .i32⟩
  | 92 => ⟨S2048x2, .i32⟩
  | 93 => ⟨S2048x2, .i32⟩
  | 94 => ⟨S2048x2, .i32⟩
  | 95 => ⟨S2048x2x1, .i32⟩
  | 96 => ⟨S1, .i32⟩
  | 97 => ⟨S_, .i32⟩
  | 98 => ⟨S2048x2x1, .i32⟩
  | 99 => ⟨S2048x2x1, .i1⟩
  | 100 => ⟨S1x1x1, .i32⟩
  | 101 => ⟨S2048x2x1, .i32⟩
  | 102 => ⟨S2048x2x1, .i1⟩
  | 103 => ⟨S2048x2x1, .i1⟩
  | 104 => ⟨S_, .i1⟩
  | 105 => ⟨S2048x2, .i1⟩
  | 106 => ⟨S2048x2, .f32⟩
  | 107 => ⟨S_, .f32⟩
  | 108 => ⟨S2048x2, .f32⟩
  | 109 => ⟨S2048x2, .f32⟩
  | 110 => ⟨S_, .f32⟩
  | 111 => ⟨S2048, .f32⟩
  | 112 => ⟨S2048x1, .f32⟩
  | 113 => ⟨S_, .f32⟩
  | 114 => ⟨S_, .f32⟩
  | 115 => ⟨S2048x1, .f32⟩
  | 116 => ⟨S2048x1, .f32⟩
  | 117 => ⟨S2048x2, .f32⟩
  | 118 => ⟨S2048x2, .f32⟩
  | 119 => ⟨S_, .f32⟩
  | 120 => ⟨S2048x8, .f32⟩
  | 121 => ⟨S2048, .i32⟩
  | 122 => ⟨S2048x1, .i32⟩
  | 123 => ⟨S_, .i32⟩
  | 124 => ⟨S2048x1, .i32⟩
  | 125 => ⟨S2048x1, .i1⟩
  | 126 => ⟨S_, .i32⟩
  | 127 => ⟨S2048x1, .i32⟩
  | _ => ⟨S1x2048x768, .f32⟩

abbrev hbmTy0_1 (i : Nat) : BufTy := match i % 128 with
  | 0 => ⟨S2048x1, .i32⟩
  | 1 => ⟨S2048x1, .i32⟩
  | 2 => ⟨S_, .i32⟩
  | 3 => ⟨S2048x2, .i32⟩
  | 4 => ⟨S2048x2, .i1⟩
  | 5 => ⟨S_, .i32⟩
  | 6 => ⟨S2048x2, .i32⟩
  | 7 => ⟨S2048x2, .i32⟩
  | 8 => ⟨S2048x2, .i32⟩
  | 9 => ⟨S2048x2, .i32⟩
  | 10 => ⟨S2048x2x1, .i32⟩
  | 11 => ⟨S2048x2x1, .i32⟩
  | 12 => ⟨S2048x2x2, .i32⟩
  | 13 => ⟨S2048x8, .f32⟩
  | 14 => ⟨S2048x8x1536, .f32⟩
  | 15 => ⟨S_, .f32⟩
  | 16 => ⟨S2048x8x1536, .f32⟩
  | 17 => ⟨S2048x8x1536, .f32⟩
  | 18 => ⟨S2048x8x1536, .f32⟩
  | 19 => ⟨S8x768x2048, .f32⟩
  | 20 => ⟨S2048x8x768, .f32⟩
  | 21 => ⟨S2048x8x1, .f32⟩
  | 22 => ⟨S2048x8x768, .f32⟩
  | 23 => ⟨S2048x8x768, .f32⟩
  | 24 => ⟨S_, .f32⟩
  | 25 => ⟨S2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_values : Ref sig .tc := ⟨.hbm, 86, rfl⟩
abbrev main_indices : Ref sig .tc := ⟨.hbm, 87, rfl⟩
abbrev main_call0_c : Ref sig .tc := ⟨.hbm, 88, rfl⟩
abbrev main_call0_v0 : Ref sig .tc := ⟨.hbm, 89, rfl⟩
abbrev main_call0_v1 : Ref sig .tc := ⟨.hbm, 90, rfl⟩
abbrev main_call0_c_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_c_1 : Ref sig .tc := ⟨.hbm, 96, rfl⟩
abbrev main_call0_c_2 : Ref sig .tc := ⟨.hbm, 97, rfl⟩
abbrev main_call0_v6 : Ref sig .tc := ⟨.hbm, 98, rfl⟩
abbrev main_call0_v7 : Ref sig .tc := ⟨.hbm, 99, rfl⟩
abbrev main_call0_v8 : Ref sig .tc := ⟨.hbm, 100, rfl⟩
abbrev main_call0_v9 : Ref sig .tc := ⟨.hbm, 101, rfl⟩
abbrev main_call0_v10 : Ref sig .tc := ⟨.hbm, 102, rfl⟩
abbrev main_call0_v11 : Ref sig .tc := ⟨.hbm, 103, rfl⟩
abbrev main_call0_c_3 : Ref sig .tc := ⟨.hbm, 104, rfl⟩
abbrev main_call0_v12 : Ref sig .tc := ⟨.hbm, 105, rfl⟩
abbrev main_call0_v13 : Ref sig .tc := ⟨.hbm, 106, rfl⟩
abbrev main_call0_cst : Ref sig .tc := ⟨.hbm, 107, rfl⟩
abbrev main_call0_v14 : Ref sig .tc := ⟨.hbm, 108, rfl⟩
abbrev main_v67 : Ref sig .tc := ⟨.hbm, 109, rfl⟩
abbrev main_cst_10 : Ref sig .tc := ⟨.hbm, 110, rfl⟩
abbrev main_v68 : Ref sig .tc := ⟨.hbm, 111, rfl⟩
abbrev main_v69 : Ref sig .tc := ⟨.hbm, 112, rfl⟩
abbrev main_cst_11 : Ref sig .tc := ⟨.hbm, 113, rfl⟩
abbrev main_call1_v0 : Ref sig .tc := ⟨.hbm, 114, rfl⟩
abbrev main_call1_v1 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_12 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_c_13 : Ref sig .tc := ⟨.hbm, 123, rfl⟩
abbrev main_v76 : Ref sig .tc := ⟨.hbm, 124, rfl⟩
abbrev main_v77 : Ref sig .tc := ⟨.hbm, 125, rfl⟩
abbrev main_c_14 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_c_15 : Ref sig .tc := ⟨.hbm, 130, rfl⟩
abbrev main_v81 : Ref sig .tc := ⟨.hbm, 131, rfl⟩
abbrev main_v82 : Ref sig .tc := ⟨.hbm, 132, rfl⟩
abbrev main_c_16 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_call2_cst : Ref sig .tc := ⟨.hbm, 143, rfl⟩
abbrev main_call2_v0 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_17 : Ref sig .tc := ⟨.hbm, 152, rfl⟩
abbrev main_v99 : Ref sig .tc := ⟨.hbm, 153, rfl⟩

abbrev nD : Nat := 1
abbrev τ : Topo := Topo.v7x

variable {F : FTy → Type} [FloatOps F]
-- ==== Proof.KernelIdeal.Router.lean ====
/- The router call's half of the run: what one grid point leaves in the gates window, the body's triple, and the
   obligation the launch asks of it. Everything is stated at a parameter `V`, the core's buffers as the call finds
   them, so that the launch can supply the contents the host operations leave. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The part of window `w`'s array that grid point `t` works on, as the call finds it. -/
def part (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes: each is a whole block, but for the four rows of the angle table and the
    first row of the bias block. -/
abbrev rx : Rect S256x768 := Rect.unit (s := S256x768) ![0, 0] S256x768.size inb_S256x768_S256x768_0_0
abbrev rw : Rect S768x768 := Rect.unit (s := S768x768) ![0, 0] S768x768.size inb_S768x768_S768x768_0_0
abbrev rt0 : Rect S8x384 := Rect.unit (s := S8x384) ![0, 0] S1x384.size inb_S8x384_S1x384_0_0
abbrev rt1 : Rect S8x384 := Rect.unit (s := S8x384) ![1, 0] S1x384.size inb_S8x384_S1x384_1_0
abbrev rt2 : Rect S8x384 := Rect.unit (s := S8x384) ![2, 0] S1x384.size inb_S8x384_S1x384_2_0
abbrev rt3 : Rect S8x384 := Rect.unit (s := S8x384) ![3, 0] S1x384.size inb_S8x384_S1x384_3_0
abbrev rk : Rect S128x768 := Rect.unit (s := S128x768) ![0, 0] S128x768.size inb_S128x768_S128x768_0_0
abbrev rb : Rect S8x128 := Rect.unit (s := S8x128) ![0, 0] S1x128.size inb_S8x128_S1x128_0_0
abbrev rg : Rect S256x128 := Rect.unit (s := S256x128) ![0, 0] S256x128.size inb_S256x128_S256x128_0_0

/-- The rotated queries of one block of tokens. -/
def turned (x : Vec F S256x768 .f32) (wr : Vec F S768x768 .f32) (tr : Vec F S8x384 .f32) : FVec F S256x768 .f32 :=
  k0_pay2 (View.ld x rx) (View.ld wr rw) (View.ld tr rt0) (View.ld tr rt1) (View.ld tr rt2) (View.ld tr rt3)
/-- The keys as the second product takes them. -/
def keyed (ek : Vec F S128x768 .f32) : FVec F S128x768 .f32 := k0_pay3 (View.ld ek rk)
/-- The zero accumulator of that product. -/
def noLogits : FVec F S256x128 .f32 := constant S256x128 .f32 0x00000000#32

/-- What the body stores in the gates block. -/
def picked (x : Vec F S256x768 .f32) (wr : Vec F S768x768 .f32) (ek : Vec F S128x768 .f32) (bi : Vec F S8x128 .f32) (tr : Vec F S8x384 .f32) :
    FVec F S256x128 .f32 :=
  k0_pay1 (iota .tc S256x128 32 [1] iota_S256x128_d1_w32)
    (k0_pay8 (turned x wr tr) (keyed ek) noLogits (View.ld bi rb)) (k0_pay9 (turned x wr tr) (keyed ek) noLogits (View.ld bi rb))
    (k0_pay10 (turned x wr tr) (keyed ek) noLogits (View.ld bi rb)) (k0_pay11 (turned x wr tr) (keyed ek) noLogits (View.ld bi rb))
    (k0_pay12 (turned x wr tr) (keyed ek) noLogits (View.ld bi rb))

/-- The gates buffer after the body: the one store covers it. -/
def leaves (x : Vec F S256x768 .f32) (wr : Vec F S768x768 .f32) (ek : Vec F S128x768 .f32) (bi : Vec F S8x128 .f32) (tr : Vec F S8x384 .f32) :
    Vec F S256x128 .f32 := View.canon [⟨rg, picked x wr ek bi tr⟩]

theorem covers (p : Vec F S256x128 .f32) (y : S256x128.Idx) :
    ∃ pc ∈ ([⟨rg, p⟩] : List (View.Piece (Elt F) S256x128 .f32)), y ∈ pc.1.set :=
  View.cover_of_tiled [⟨rg, p⟩] S256x128.size (by rfl) y

set_option maxHeartbeats 1000000 in
/-- The body on any whole buffers: from the five inputs it runs to its end with the inputs as they were and the
    gates buffer at `leaves`. -/
theorem body_runs (c : Dev nD) (E : Set ℕ) (i : grid0.Coords)
    (a1 : Memref sig .tc .vmem S256x768 .f32) (h1 : a1.IsWhole) (a2 : Memref sig .tc .vmem S768x768 .f32) (h2 : a2.IsWhole)
    (a3 : Memref sig .tc .vmem S128x768 .f32) (h3 : a3.IsWhole) (a4 : Memref sig .tc .vmem S8x128 .f32) (h4 : a4.IsWhole)
    (a5 : Memref sig .tc .vmem S8x384 .f32) (h5 : a5.IsWhole) (a6 : Memref sig .tc .vmem S256x128 .f32) (h6 : a6.IsWhole)
    (x : Vec F S256x768 .f32) (wr : Vec F S768x768 .f32) (ek : Vec F S128x768 .f32) (bi : Vec F S8x128 .f32) (tr : Vec F S8x384 .f32)
    (K : PUnit → sProp 𝕄) :
    iprop(owns (c : Thread nD τ) a1 fullShare x ∗ owns (c : Thread nD τ) a2 fullShare wr ∗ owns (c : Thread nD τ) a3 fullShare ek
        ∗ owns (c : Thread nD τ) a4 fullShare bi ∗ owns (c : Thread nD τ) a5 fullShare tr ∗ (∃ d, owns (c : Thread nD τ) a6 fullShare d)
        ∗ (iprop(owns (c : Thread nD τ) a1 fullShare x ∗ owns (c : Thread nD τ) a2 fullShare wr ∗ owns (c : Thread nD τ) a3 fullShare ek
            ∗ owns (c : Thread nD τ) a4 fullShare bi ∗ owns (c : Thread nD τ) a5 fullShare tr
            ∗ owns (c : Thread nD τ) a6 fullShare (leaves x wr ek bi tr)) -∗ K ⟨⟩))
      ⊢ wp frame (wpE (defs₀ (F := F)) Variants.none c none) E (cc0__router_body i a1 h1 a2 h2 a3 h3 a4 h4 a5 h5 a6 h6) K := by
  simp only [cc0__router_body_eq_skeleton]; unfold cc0__router_body_skel
  simp only [k0_part1_eq_skeleton, k0_part2_eq_skeleton]
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (covers _)).trans ?_
  rfl

/-- The call's proof data: the arrays as found, each input's buffer at its part, the gates' at `leaves`. -/
def dat (c : Dev nD) : Dat τ (Elt F) Unit ℕ (UR sig nD τ) ℕ cfg0 c where
  A w := V c (Pipeline.arrRef spec0 w)
  after w t := match w with
    | ⟨0, _⟩ => part V c 0 t
    | ⟨1, _⟩ => part V c 1 t
    | ⟨2, _⟩ => part V c 2 t
    | ⟨3, _⟩ => part V c 3 t
    | ⟨4, _⟩ => part V c 4 t
    | ⟨5, _⟩ => leaves (part V c 0 t) (part V c 1 t) (part V c 2 t) (part V c 3 t) (part V c 4 t)
  Φ _ := Pipeline.ΦA spec0 c
  q _ := fullShare
  owed _ := 0

theorem dat_A (c : Dev nD) (w : Fin cfg0.W) : (dat V c).A w = V c (Pipeline.arrRef spec0 w) := by dsimp only [dat]
theorem after_0 (c : Dev nD) (t : Fin cfg0.N) : (dat V c).after 0 t = part V c 0 t := by dsimp only [dat]
theorem after_1 (c : Dev nD) (t : Fin cfg0.N) : (dat V c).after 1 t = part V c 1 t := by dsimp only [dat]
theorem after_2 (c : Dev nD) (t : Fin cfg0.N) : (dat V c).after 2 t = part V c 2 t := by dsimp only [dat]
theorem after_3 (c : Dev nD) (t : Fin cfg0.N) : (dat V c).after 3 t = part V c 3 t := by dsimp only [dat]
theorem after_4 (c : Dev nD) (t : Fin cfg0.N) : (dat V c).after 4 t = part V c 4 t := by dsimp only [dat]
theorem after_5 (c : Dev nD) (t : Fin cfg0.N) :
    (dat V c).after 5 t = leaves (part V c 0 t) (part V c 1 t) (part V c 2 t) (part V c 3 t) (part V c 4 t) := by dsimp only [dat]

/-! An input's buffer holds its part at every point, whether or not the point fetched it. -/

theorem before_0 (c : Dev nD) (t : Fin cfg0.N) (d) : (dat V c).before 0 t d = part V c 0 t :=
  ((dat V c).before_in_eq_fetched 0 rfl (fun _ => rfl) (fun _ _ _ => rfl)
    (fun t => by rw [after_0]; unfold Dat.blockOf part; rw [dat_A]; try rfl) t d).trans
    (by unfold Dat.fetched Dat.blockOf part; rw [dat_A]; try rfl)
theorem before_1 (c : Dev nD) (t : Fin cfg0.N) (d) : (dat V c).before 1 t d = part V c 1 t :=
  ((dat V c).before_in_eq_fetched 1 rfl (fun _ => rfl) (fun _ _ _ => rfl)
    (fun t => by rw [after_1]; unfold Dat.blockOf part; rw [dat_A]; try rfl) t d).trans
    (by unfold Dat.fetched Dat.blockOf part; rw [dat_A]; try rfl)
theorem before_2 (c : Dev nD) (t : Fin cfg0.N) (d) : (dat V c).before 2 t d = part V c 2 t :=
  ((dat V c).before_in_eq_fetched 2 rfl (fun _ => rfl) (fun _ _ _ => rfl)
    (fun t => by rw [after_2]; unfold Dat.blockOf part; rw [dat_A]; try rfl) t d).trans
    (by unfold Dat.fetched Dat.blockOf part; rw [dat_A]; try rfl)
theorem before_3 (c : Dev nD) (t : Fin cfg0.N) (d) : (dat V c).before 3 t d = part V c 3 t :=
  ((dat V c).before_in_eq_fetched 3 rfl (fun _ => rfl) (fun _ _ _ => rfl)
    (fun t => by rw [after_3]; unfold Dat.blockOf part; rw [dat_A]; try rfl) t d).trans
    (by unfold Dat.fetched Dat.blockOf part; rw [dat_A]; try rfl)
theorem before_4 (c : Dev nD) (t : Fin cfg0.N) (d) : (dat V c).before 4 t d = part V c 4 t :=
  ((dat V c).before_in_eq_fetched 4 rfl (fun _ => rfl) (fun _ _ _ => rfl)
    (fun t => by rw [after_4]; unfold Dat.blockOf part; rw [dat_A]; try rfl) t d).trans
    (by unfold Dat.fetched Dat.blockOf part; rw [dat_A]; try rfl)

/-- What the body is handed at point `t`, and what it hands back. -/
def given (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

theorem body_at (c : Dev nD) (t : Fin cfg0.N) :
    given V c t ⊢ wp frame (wpE (defs₀ (F := F)) Variants.none c none) Set.univ (bodyAt0 t) (fun _ => returned V c t) := by
  unfold given returned bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _
    (part V c 0 t) (part V c 1 t) (part V c 2 t) (part V c 3 t) (part V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row (t : Fin cfg0.N) : defs₀ (F := F) .tc cfg0.body (cfg0.bodyArgs t (cfg0.slots t)) = bodyAt0 t := by
  unfold defs₀; rw [Defs.onTc_tc]

/-- The obligation, at every point. -/
theorem obligation (c : Dev nD) : BodyObligation (dat (F := F) V c) (defs₀ (F := F)) Variants.none () Set.univ := fun t => by
  rw [bigSep_W0, bigSep_W0, row]
  exact triple_restated (body_at V c t) rfl .rfl fun _ => .rfl

end Cert.KernelIdeal.Route

end
-- ==== Proof.KernelIdeal.Experts.lean ====
/- The expert call's half of the run. Its grid walks the eight experts over one block of all tokens; the first expert's
   point overwrites the output buffer and every later one adds to it, so what the buffer holds after a point is a
   recursion over the points (`sofar`). Stated at a parameter `V`, the core's buffers as the call finds them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Mathlib.Tactic.IntervalCases

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The part of window `w`'s array that grid point `t` works on, as the call finds it. -/
def part (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two conditions of the body -/

/-- Every grid point is the first expert's or a later one's. -/
theorem first_iff : ∀ t : Fin cfg1.N, k1_cond1 (grid1.coords t) = 1#1 ↔ t.val = 0 :=
  (by decide +kernel : ∀ t : Fin grid1.N, k1_cond1 (grid1.coords t) = 1#1 ↔ t.val = 0)
theorem later_iff : ∀ t : Fin cfg1.N, k1_cond2 (grid1.coords t) = 1#1 ↔ t.val ≠ 0 :=
  (by decide +kernel : ∀ t : Fin grid1.N, k1_cond2 (grid1.coords t) = 1#1 ↔ t.val ≠ 0)

/-- The expert coordinate decides: one of the two conditions holds at any coordinates. -/
theorem first_or_later (i : grid1.Coords) : k1_cond1 i = 1#1 ∨ k1_cond2 i = 1#1 := by
  have h : (i 1).val < 8 := (i 1).isLt
  unfold k1_cond1 k1_cond2
  generalize (i 1).val = n at h
  interval_cases n <;> decide

/-- So the output window is stored at every point. -/
theorem never_idle (i : grid1.Coords) : cfg1.idle 4 i = false := by
  show (!(k1_cond1 i == 1#1) && !(k1_cond2 i == 1#1)) = false
  rcases first_or_later i with h | h <;> simp [h]

/-! ## What the body leaves -/

abbrev rx : Rect S2048x768 := Rect.unit (s := S2048x768) ![0, 0] S2048x768.size inb_S2048x768_S2048x768_0_0
abbrev rg : Rect S2048x128 := Rect.unit (s := S2048x128) ![0, 0] S2048x128.size inb_S2048x128_S2048x128_0_0
abbrev rf : Rect S1x1536x768 := Rect.unit (s := S1x1536x768) ![0, 0, 0] S1x1536x768.size inb_S1x1536x768_S1x1536x768_0_0_0
abbrev rp : Rect S1x768x1536 := Rect.unit (s := S1x768x1536) ![0, 0, 0] S1x768x1536.size inb_S1x768x1536_S1x768x1536_0_0_0

/-- The output buffer after the first expert's point. -/
def begun (i : grid1.Coords) (x : Vec F S2048x768 .f32) (g : Vec F S2048x128 .f32) (wf : Vec F S1x1536x768 .f32) (wp : Vec F S1x768x1536 .f32) :
    Vec F S2048x768 .f32 :=
  View.canon [⟨rx, k1_pay3 i (View.ld x rx) (View.ld wf rf) (View.ld wp rp) (View.ld g rg)⟩]
/-- The output buffer after a later expert's point that found `o` in it. -/
def grown (i : grid1.Coords) (x : Vec F S2048x768 .f32) (g : Vec F S2048x128 .f32) (wf : Vec F S1x1536x768 .f32) (wp : Vec F S1x768x1536 .f32)
    (o : Vec F S2048x768 .f32) : Vec F S2048x768 .f32 :=
  View.canon [⟨rx, k1_pay4 i (View.ld x rx) (View.ld wf rf) (View.ld wp rp) (View.ld g rg) (View.ld o rx)⟩]

theorem covers (p : Vec F S2048x768 .f32) (y : S2048x768.Idx) :
    ∃ pc ∈ ([⟨rx, p⟩] : List (View.Piece (Elt F) S2048x768 .f32)), y ∈ pc.1.set :=
  View.cover_of_tiled [⟨rx, p⟩] S2048x768.size (by rfl) y

set_option maxHeartbeats 1000000 in
/-- The first expert's point: whatever the output buffer held, it ends at `begun`. -/
theorem runs_first (c : Dev nD) (E : Set ℕ) (i : grid1.Coords)
    (a2 : Memref sig .tc .vmem S2048x768 .f32) (h2 : a2.IsWhole) (a3 : Memref sig .tc .vmem S2048x128 .f32) (h3 : a3.IsWhole)
    (a4 : Memref sig .tc .vmem S1x1536x768 .f32) (h4 : a4.IsWhole) (a5 : Memref sig .tc .vmem S1x768x1536 .f32) (h5 : a5.IsWhole)
    (a6 : Memref sig .tc .vmem S2048x768 .f32) (h6 : a6.IsWhole) (hc1 : k1_cond1 i = 1#1) (hc2 : ¬k1_cond2 i = 1#1)
    (x : Vec F S2048x768 .f32) (g : Vec F S2048x128 .f32) (wf : Vec F S1x1536x768 .f32) (wp : Vec F S1x768x1536 .f32)
    (K : PUnit → sProp 𝕄) :
    iprop(owns (c : Thread nD τ) a2 fullShare x ∗ owns (c : Thread nD τ) a3 fullShare g ∗ owns (c : Thread nD τ) a4 fullShare wf
        ∗ owns (c : Thread nD τ) a5 fullShare wp ∗ (∃ d, owns (c : Thread nD τ) a6 fullShare d)
        ∗ (iprop(owns (c : Thread nD τ) a2 fullShare x ∗ owns (c : Thread nD τ) a3 fullShare g ∗ owns (c : Thread nD τ) a4 fullShare wf
            ∗ owns (c : Thread nD τ) a5 fullShare wp ∗ owns (c : Thread nD τ) a6 fullShare (begun i x g wf wp)) -∗ K ⟨⟩))
      ⊢ Idealize.SL.Sem.wp frame (wpE (defs₀ (F := F)) Variants.none c none) E (cc1__expert_body i a2 h2 a3 h3 a4 h4 a5 h5 a6 h6) K := by
  simp only [cc1__expert_body_eq_skeleton]; unfold cc1__expert_body_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (covers _)).trans ?_
  rfl

set_option maxHeartbeats 1000000 in
/-- A later expert's point: the output buffer goes from `o` to `grown … o`. -/
theorem runs_later (c : Dev nD) (E : Set ℕ) (i : grid1.Coords)
    (a2 : Memref sig .tc .vmem S2048x768 .f32) (h2 : a2.IsWhole) (a3 : Memref sig .tc .vmem S2048x128 .f32) (h3 : a3.IsWhole)
    (a4 : Memref sig .tc .vmem S1x1536x768 .f32) (h4 : a4.IsWhole) (a5 : Memref sig .tc .vmem S1x768x1536 .f32) (h5 : a5.IsWhole)
    (a6 : Memref sig .tc .vmem S2048x768 .f32) (h6 : a6.IsWhole) (hc1 : ¬k1_cond1 i = 1#1) (hc2 : k1_cond2 i = 1#1)
    (x : Vec F S2048x768 .f32) (g : Vec F S2048x128 .f32) (wf : Vec F S1x1536x768 .f32) (wp : Vec F S1x768x1536 .f32)
    (o : Vec F S2048x768 .f32) (K : PUnit → sProp 𝕄) :
    iprop(owns (c : Thread nD τ) a2 fullShare x ∗ owns (c : Thread nD τ) a3 fullShare g ∗ owns (c : Thread nD τ) a4 fullShare wf
        ∗ owns (c : Thread nD τ) a5 fullShare wp ∗ owns (c : Thread nD τ) a6 fullShare o
        ∗ (iprop(owns (c : Thread nD τ) a2 fullShare x ∗ owns (c : Thread nD τ) a3 fullShare g ∗ owns (c : Thread nD τ) a4 fullShare wf
            ∗ owns (c : Thread nD τ) a5 fullShare wp ∗ owns (c : Thread nD τ) a6 fullShare (grown i x g wf wp o)) -∗ K ⟨⟩))
      ⊢ Idealize.SL.Sem.wp frame (wpE (defs₀ (F := F)) Variants.none c none) E (cc1__expert_body i a2 h2 a3 h3 a4 h4 a5 h5 a6 h6) K := by
  simp only [cc1__expert_body_eq_skeleton]; unfold cc1__expert_body_skel
  unfold owns
  iintro ⟨⟨%f0, %e0, H0⟩, ⟨%f1, %e1, H1⟩, ⟨%f2, %e2, H2⟩, ⟨%f3, %e3, H3⟩, ⟨%f4, %e4, H4⟩, Hk⟩
  subst e0 e1 e2 e3 e4
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (covers _)).trans ?_
  rfl

/-- What the output buffer holds after point `n`. -/
def sofar (c : Dev nD) : (n : ℕ) → n < cfg1.N → Vec F S2048x768 .f32
  | 0, h => begun (grid1.coords ⟨0, h⟩) (part V c 0 ⟨0, h⟩) (part V c 1 ⟨0, h⟩) (part V c 2 ⟨0, h⟩) (part V c 3 ⟨0, h⟩)
  | n + 1, h => grown (grid1.coords ⟨n + 1, h⟩) (part V c 0 ⟨n + 1, h⟩) (part V c 1 ⟨n + 1, h⟩) (part V c 2 ⟨n + 1, h⟩)
      (part V c 3 ⟨n + 1, h⟩) (sofar c n (Nat.lt_of_succ_lt h))

theorem sofar_first (c : Dev nD) (t : Fin cfg1.N) (ht : t.val = 0) :
    sofar V c t.val t.isLt = begun (grid1.coords t) (part V c 0 t) (part V c 1 t) (part V c 2 t) (part V c 3 t) := by
  obtain ⟨n, hn⟩ := t
  cases n with
  | zero => rfl
  | succ n => exact absurd ht (Nat.succ_ne_zero n)

theorem sofar_later (c : Dev nD) (t : Fin cfg1.N) (ht : t.val ≠ 0) :
    sofar V c t.val t.isLt = grown (grid1.coords t) (part V c 0 t) (part V c 1 t) (part V c 2 t) (part V c 3 t)
      (sofar V c (t.val - 1) (Nat.lt_of_le_of_lt (Nat.sub_le _ _) t.isLt)) := by
  obtain ⟨n, hn⟩ := t
  cases n with
  | zero => exact absurd rfl ht
  | succ n => rfl

/-- The call's proof data. -/
def dat (c : Dev nD) : Dat τ (Elt F) Unit ℕ (UR sig nD τ) ℕ cfg1 c where
  A w := V c (Pipeline.arrRef spec1 w)
  after w t := match w with
    | ⟨0, _⟩ => part V c 0 t
    | ⟨1, _⟩ => part V c 1 t
    | ⟨2, _⟩ => part V c 2 t
    | ⟨3, _⟩ => part V c 3 t
    | ⟨4, _⟩ => sofar V c t.val t.isLt
  Φ _ := Pipeline.ΦA spec1 c
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = part V c 0 t := by dsimp only [dat]
theorem after_1 (c : Dev nD) (t : Fin cfg1.N) : (dat V c).after 1 t = part V c 1 t := by dsimp only [dat]
theorem after_2 (c : Dev nD) (t : Fin cfg1.N) : (dat V c).after 2 t = part V c 2 t := by dsimp only [dat]
theorem after_3 (c : Dev nD) (t : Fin cfg1.N) : (dat V c).after 3 t = part V c 3 t := by dsimp only [dat]
theorem after_4 (c : Dev nD) (t : Fin cfg1.N) : (dat V c).after 4 t = sofar V c t.val t.isLt := by dsimp only [dat]

/-! An input's buffer holds its part at every point, whether or not the point fetched it. -/

theorem before_0 (c : Dev nD) (t : Fin cfg1.N) (d) : (dat V c).before 0 t d = part V c 0 t :=
  ((dat V c).before_in_eq_fetched 0 rfl (fun _ => rfl) (fun _ _ _ => rfl)
    (fun t => by rw [after_0]; unfold Dat.blockOf part; rw [dat_A]; try rfl) t d).trans
    (by unfold Dat.fetched Dat.blockOf part; rw [dat_A]; try rfl)
theorem before_1 (c : Dev nD) (t : Fin cfg1.N) (d) : (dat V c).before 1 t d = part V c 1 t :=
  ((dat V c).before_in_eq_fetched 1 rfl (fun _ => rfl) (fun _ _ _ => rfl)
    (fun t => by rw [after_1]; unfold Dat.blockOf part; rw [dat_A]; try rfl) t d).trans
    (by unfold Dat.fetched Dat.blockOf part; rw [dat_A]; try rfl)
theorem before_2 (c : Dev nD) (t : Fin cfg1.N) (d) : (dat V c).before 2 t d = part V c 2 t :=
  ((dat V c).before_in_eq_fetched 2 rfl (fun _ => rfl) (fun _ _ _ => rfl)
    (fun t => by rw [after_2]; unfold Dat.blockOf part; rw [dat_A]; try rfl) t d).trans
    (by unfold Dat.fetched Dat.blockOf part; rw [dat_A]; try rfl)
theorem before_3 (c : Dev nD) (t : Fin cfg1.N) (d) : (dat V c).before 3 t d = part V c 3 t :=
  ((dat V c).before_in_eq_fetched 3 rfl (fun _ => rfl) (fun _ _ _ => rfl)
    (fun t => by rw [after_3]; unfold Dat.blockOf part; rw [dat_A]; try rfl) t d).trans
    (by unfold Dat.fetched Dat.blockOf part; rw [dat_A]; try rfl)

/-- Past the first point the output buffer holds what the point before left: its block is written back only at the end. -/
theorem before_4 (c : Dev nD) (t : Fin cfg1.N) (ht : t.val ≠ 0) (d) :
    (dat V c).before 4 t d = sofar V c (t.val - 1) (Nat.lt_of_le_of_lt (Nat.sub_le _ _) t.isLt) := by
  have hN : t.val < 8 := lt_of_lt_of_eq t.isLt (show cfg1.N = 8 from N_1)
  rw [Dat.before_out_kept _ 4 rfl t ht (Bool.eq_false_iff.mpr fun h => by have := (flush1_4 _).mp h; dsimp only at this; omega)
    never_idle (fun _ _ => rfl)]
  dsimp only [dat]

/-- What the body is handed at point `t`, and what it hands back. -/
def given (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ (dat V c).leavesExact 4 t)

set_option maxHeartbeats 800000 in
theorem body_at (c : Dev nD) (t : Fin cfg1.N) :
    given V c t ⊢ Idealize.SL.Sem.wp frame (wpE (defs₀ (F := F)) Variants.none c none) Set.univ (bodyAt1 t) (fun _ => returned V c t) := by
  unfold given returned bodyAt1
  simp only [before_0, before_1, before_2, before_3]
  rw [show (dat V c).leavesExact 4 t = owns (c : Thread nD τ) (st1_4 t) fullShare ((dat V c).after 4 t) from by
      unfold Dat.leavesExact; rw [never_idle],
    show (dat V c).Φ t.succ = (dat V c).Φ t.castSucc from rfl,
    show (dat V c).owesAt () t.succ = (dat V c).owesAt () t.castSucc from rfl,
    after_0, after_1, after_2, after_3, after_4]
  by_cases ht : t.val = 0
  · rw [sofar_first V c t ht]
    iintro ⟨HΦ, Ho, ⟨%d0, H0⟩, ⟨%d1, H1⟩, ⟨%d2, H2⟩, ⟨%d3, H3⟩, ⟨%d4, H4⟩⟩
    iapply (runs_first c Set.univ (grid1.coords t) _ _ _ _ _ _ _ _ _ _ ((first_iff t).mpr ht) (fun h => (later_iff t).mp h ht)
      (part V c 0 t) (part V c 1 t) (part V c 2 t) (part V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [sofar_later V c t ht]
    simp only [before_4 V c t ht]
    iintro ⟨HΦ, Ho, ⟨%d0, H0⟩, ⟨%d1, H1⟩, ⟨%d2, H2⟩, ⟨%d3, H3⟩, ⟨%d4, H4⟩⟩
    iapply (runs_later c Set.univ (grid1.coords t) _ _ _ _ _ _ _ _ _ _ (fun h => ht ((first_iff t).mp h)) ((later_iff t).mpr ht)
      (part V c 0 t) (part V c 1 t) (part V c 2 t) (part V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem row (t : Fin cfg1.N) : defs₀ (F := F) .tc cfg1.body (cfg1.bodyArgs t (cfg1.slots t)) = bodyAt1 t := by
  unfold defs₀; rw [Defs.onTc_tc]

/-- The obligation, at every point. -/
theorem obligation (c : Dev nD) : BodyObligation (dat (F := F) V c) (defs₀ (F := F)) Variants.none () Set.univ := fun t => by
  rw [bigSep_W1, bigSep_W1, row]
  exact triple_restated (body_at V c t) rfl .rfl fun _ => .rfl

end Cert.KernelIdeal.Mix

end
-- ==== Proof.KernelIdeal.Launched.lean ====
/- The whole program's run: the host operations, the router call and the expert call in turn. Between two of them the
   core holds every buffer at known contents (`atStart`, `prepared`, `routed`, `mixed`); the run ends with every buffer
   at `mixed` and every counter at zero. -/
module

public import proofs.«01_k».proof.Proof.KernelIdeal.Router
public import proofs.«01_k».proof.Proof.KernelIdeal.Experts
public import proofs.«01_k».proof.Proof.Gen.KernelIdeal.Regions

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents between the steps -/

abbrev args : List (Ref sig .tc) := [main_arg0, main_arg1, main_arg2, main_arg3, main_arg4, main_arg5, main_arg6]

/-- At the start. -/
abbrev atStart (c : Dev nD) : Valuation τ sig (Elt F) := fun b => m (c, b)
/-- After the host operations. -/
abbrev prepared (c : Dev nD) : Valuation τ sig (Elt F) := StableHlo.after hostOps0 (atStart m c)
abbrev preparedAt (c : Dev nD) (b : Ref sig .tc) : Buf (Elt F) ((c : Thread nD τ).loc b) := prepared m c b
/-- After the router call: its arrays at what it wrote back, every other buffer as before. -/
def routed (c : Dev nD) : Valuation τ sig (Elt F) :=
  Pipeline.withArrays spec0 c (prepared m c) fun w => (Route.dat (preparedAt m) c).arrAt w cfg0.N
abbrev routedAt (c : Dev nD) (b : Ref sig .tc) : Buf (Elt F) ((c : Thread nD τ).loc b) := routed m c b
/-- After the expert call. -/
def mixed (c : Dev nD) : Valuation τ sig (Elt F) :=
  Pipeline.withArrays spec1 c (routed m c) fun w => (Mix.dat (routedAt m) c).arrAt w cfg1.N
abbrev mixedAt (c : Dev nD) (b : Ref sig .tc) : Buf (Elt F) ((c : Thread nD τ).loc b) := mixed m c b

theorem prepared_of (c : Dev nD) (r : Ref sig .tc) (h : r ∉ hostOps0_W) :
    prepared m c (Proc.devRef .tc r) = m ((c : Thread nD τ).loc r) :=
  StableHlo.after_of_writes_sub hostOps0 _ hostOps0_writes h

theorem routed_arr (c : Dev nD) (w : Fin cfg0.W) :
    routed m c (Proc.devRef .tc (Pipeline.arrRef spec0 w)) = (Route.dat (preparedAt m) c).arrAt w cfg0.N := by
  unfold routed; exact Pipeline.withArrays_arr spec0 launch0.win.arr_inj c _ _ w
theorem routed_off (c : Dev nD) (b : Ref sig .tc) (hb : ∀ w, Pipeline.arrRef spec0 w ≠ b) :
    routed m c (Proc.devRef .tc b) = prepared m c (Proc.devRef .tc b) := by
  unfold routed; exact Pipeline.withArrays_of_ne spec0 c _ _ b hb
/-- The router call changes none but its output's array. -/
theorem routed_of (c : Dev nD) (r : Ref sig .tc) (h : ∀ w : Fin cfg0.W, Pipeline.arrRef spec0 w = r → (cfg0.win w).isOut = false) :
    routed m c (Proc.devRef .tc r) = prepared m c (Proc.devRef .tc r) := by
  by_cases hw : ∃ w : Fin cfg0.W, Pipeline.arrRef spec0 w = r
  · obtain ⟨w, rfl⟩ := hw
    exact (routed_arr m c w).trans (((Route.dat (preparedAt m) c).arrAt_in w (h w rfl) _).trans (Route.dat_A (preparedAt m) c w))
  · exact routed_off m c r fun w e => hw ⟨w, e⟩

theorem mixed_arr (c : Dev nD) (w : Fin cfg1.W) :
    mixed m c (Proc.devRef .tc (Pipeline.arrRef spec1 w)) = (Mix.dat (routedAt m) c).arrAt w cfg1.N := by
  unfold mixed; exact Pipeline.withArrays_arr spec1 launch1.win.arr_inj c _ _ w
theorem mixed_off (c : Dev nD) (b : Ref sig .tc) (hb : ∀ w, Pipeline.arrRef spec1 w ≠ b) :
    mixed m c (Proc.devRef .tc b) = routed m c (Proc.devRef .tc b) := by
  unfold mixed; exact Pipeline.withArrays_of_ne spec1 c _ _ b hb
/-- The expert call changes none but its output's array. -/
theorem mixed_of (c : Dev nD) (r : Ref sig .tc) (h : ∀ w : Fin cfg1.W, Pipeline.arrRef spec1 w = r → (cfg1.win w).isOut = false) :
    mixed m c (Proc.devRef .tc r) = routed m c (Proc.devRef .tc r) := by
  by_cases hw : ∃ w : Fin cfg1.W, Pipeline.arrRef spec1 w = r
  · obtain ⟨w, rfl⟩ := hw
    exact (mixed_arr m c w).trans (((Mix.dat (routedAt m) c).arrAt_in w (h w rfl) _).trans (Mix.dat_A (routedAt m) c w))
  · exact mixed_off m c r fun w e => hw ⟨w, e⟩

theorem args_off_host : ∀ a ∈ args, a ∉ hostOps0_W := ListAll.forall_mem_of_all_decide (by decide +kernel)
theorem args_in_route : ∀ a ∈ args, ∀ w : Fin cfg0.W, Pipeline.arrRef spec0 w = a → (cfg0.win w).isOut = false :=
  ListAll.forall_mem_of_all_decide (by decide +kernel)
theorem args_in_mix : ∀ a ∈ args, ∀ w : Fin cfg1.W, Pipeline.arrRef spec1 w = a → (cfg1.win w).isOut = false :=
  ListAll.forall_mem_of_all_decide (by decide +kernel)
/-- An argument is what it was, after the router call and at the end. -/
theorem routed_arg (c : Dev nD) (a : Ref sig .tc) (ha : a ∈ args) : routed m c (Proc.devRef .tc a) = m ((c : Thread nD τ).loc a) :=
  (routed_of m c a (args_in_route a ha)).trans (prepared_of m c a (args_off_host a ha))
theorem mixed_arg (c : Dev nD) (a : Ref sig .tc) (ha : a ∈ args) : mixed m c (Proc.devRef .tc a) = m ((c : Thread nD τ).loc a) :=
  (mixed_of m c a (args_in_mix a ha)).trans (routed_arg m c a ha)

/-! ## The steps -/

abbrev tables : (p : Fin 2) → (pcfgs (F := F) p).Adm := fun p => (cfgs p).toPCfg_adm
/-- Each call's proof data at the contents it is entered with. -/
def dats : (p : Fin 2) → (c : Dev nD) → Dat τ (Elt F) Unit ℕ (UR sig nD τ) ℕ (Pipeline.pin (pcfgs (F := F)) tables p) c
  | ⟨0, _⟩ => fun c => Route.dat (preparedAt m) c
  | ⟨1, _⟩ => fun c => Mix.dat (routedAt m) c
abbrev noVar : Variants := Variants.none
abbrev noDue : GSem nD τ sig → Finset Unit := fun _ => ∅
abbrev noRank : GSem nD τ sig → Unit → ℕ := fun _ _ => 0
/-- What a core holds beside its buffers: its generator register, and that it owes nothing. -/
abbrev Beside (c : Dev nD) : sProp 𝕄 := iprop((∃ r, prngReg c r) ∗ ∃ W, owes (c : Thread nD τ) (0 : CellTallies nD τ sig Unit) W)
abbrev Last (c : Dev nD) : sProp 𝕄 := iprop(StableHlo.held (c : Thread nD τ) (Pipeline.ucRefs τ sig) (mixed m c) ∗ ∃ r, prngReg c r)

/-- The host operations. -/
abbrev hostStep : Pipeline.HostSeg (Name := ℕ) (U := UR sig nD τ) (pcfgs (F := F)) defs₀ noVar noDue noRank :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atStart m) Beside

theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The router call: its arrays are taken out of the buffers and put back at what it wrote. -/
def routeStep : Pipeline.RegionSeg (pcfgs (F := F)) tables (dats m) () defs₀ noVar noDue noRank 0 where
  win := launch0.win.to₀
  block_pos := launch0.block_pos
  stage_whole := launch0.stage_whole
  K := PEmpty
  osem k := k.elim
  ho := Pipeline.OwnSemFacts.none _
  hbody c := (Route.obligation (preparedAt m) c).loose
  hwaits := Pipeline.hwaits_of_owed_zero _ _ _ _ noDue noRank 0 fun _ _ => rfl
  pre c := iprop(StableHlo.held (c : Thread nD τ) (Pipeline.ucRefs τ sig) (prepared m c) ∗ Beside c)
  post c := iprop(StableHlo.held (c : Thread nD τ) (Pipeline.ucRefs τ sig) (routed m c) ∗ Beside c)
  X c := iprop(∃ r, prngReg c r)
  Y c := iprop(∃ r, prngReg c r)
  Z c := Pipeline.unscopedRest (Ix := Unit) (Name := ℕ) (U := UR sig nD τ) (Lvl := ℕ) spec0 c (preparedAt m c)
  hentry c := by
    rw [Pipeline.ownSems0_none]
    have hsplit := Pipeline.arrays_of_unscopedBufs (p := 0) (pcfgs (F := F)) tables (dats m) launch0.win launch0.arr_whole c
      ((dats m 0 c).share_full fun _ => rfl) (preparedAt m c) (Route.dat_A (preparedAt m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (dats m) ((dats m 0 c).share_full fun _ => rfl)
      (preparedAt m c) (routedAt m c) ((dats m 0 c).arrAt · cfg0.N) (fun w => (routed_arr m c w).symm)
      (fun b hb => routed_off m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The expert call, likewise. -/
def mixStep : Pipeline.RegionSeg (pcfgs (F := F)) tables (dats m) () defs₀ noVar noDue noRank 1 where
  win := launch1.win.to₀
  block_pos := launch1.block_pos
  stage_whole := launch1.stage_whole
  K := PEmpty
  osem k := k.elim
  ho := Pipeline.OwnSemFacts.none _
  hbody c := (Mix.obligation (routedAt m) c).loose
  hwaits := Pipeline.hwaits_of_owed_zero _ _ _ _ noDue noRank 1 fun _ _ => rfl
  pre c := iprop(StableHlo.held (c : Thread nD τ) (Pipeline.ucRefs τ sig) (routed m c) ∗ Beside c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (routedAt m c)
  hentry c := by
    rw [Pipeline.ownSems0_none]
    have hsplit := Pipeline.arrays_of_unscopedBufs (p := 1) (pcfgs (F := F)) tables (dats m) launch1.win launch1.arr_whole c
      ((dats m 1 c).share_full fun _ => rfl) (routedAt m c) (Mix.dat_A (routedAt m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 1 c).Φ 0 = Pipeline.ΦA spec1 c from rfl]; unfold Pipeline.ΦA
    iintro ⟨Hp, -, Hr⟩
    isplitl [Hr]; · iexact Hr
    iexact Hp
  hout c := by
    rw [Pipeline.ownSems0_none, show (dats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (dats m) ((dats m 1 c).share_full fun _ => rfl)
      (routedAt m c) (mixedAt m c) ((dats m 1 c).arrAt · cfg1.N) (fun w => (mixed_arr m c w).symm)
      (fun b hb => mixed_off m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev steps : List (Pipeline.Seg (pcfgs (F := F)) tables (dats m) () defs₀ noVar noDue noRank) :=
  [.host (hostStep m), .region (routeStep m), .region (mixStep m)]

theorem main_steps (c : Dev nD) : main (F := F) c = Pipeline.Seg.run (steps m) := (main_chain c).trans (by chain_rfl)

set_option backward.isDefEq.respectTransparency.types false in
/-- THE RUN: from any memory with zero counters the program ends, every buffer of every core at `mixed` and every
    counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = mixed m c b) ∧ r.2.sem = fun _ => 0) :=
  Pipeline.θ_run_regions_kit_sems (pcfgs (F := F)) tables (dats m) () cellOf_inj emb₁ defs₀ noVar noDue noRank m ρ main (steps m)
    (fun c Q => by rw [main_steps m c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atStart m c) ∗ Beside c)) (Tₙ := Last m)
    (hch := ⟨fun _ => .rfl, fun _ => .rfl, fun _ => .rfl, fun _ => .rfl⟩)
    (hinit := by
      refine Pipeline.initEach noDue noRank fun c => ?_
      rw [show unscopedBufs c (fun b => m ((c : Thread nD τ).loc b)) = StableHlo.held (c : Thread nD τ) (Pipeline.ucRefs τ sig) (atStart m c)
        from Pipeline.unscopedBufs_held c (atStart m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mixed m c b)
    (hfin := fun c s' => by
      iintro ⟨⟨Hh, -⟩, HSI⟩
      unfold StableHlo.held
      imodintro
      iapply (pointsTo_read_all (Pipeline.ucRefs τ sig) (fun b => (((c : Thread nD τ)).1, b)) (mixed m c) s')
      isplitl [Hh] <;> iassumption)
    (hQ := fun s h hz => ⟨h, funext fun g => hz g (.inr (regions_no_unscoped g.2))⟩)

/-- An argument read at the end of a run. -/
theorem arg_end {s : MemSt nD τ sig (Elt F)} (c : Dev nD)
    (h : ∀ b ∈ Pipeline.ucRefs τ sig, s.mem (((c : Thread nD τ)).1, b) = mixed m c b) (a : Ref sig .tc) (ha : a ∈ args)
    (hs : ¬ (Proc.devRef .tc a : DevRef τ sig).isScoped) : s.mem ((c : Thread nD τ).loc a) = m ((c : Thread nD τ).loc a) :=
  (h _ (unscoped_mem a hs)).trans (mixed_arg m c a ha)

end Cert.KernelIdeal.Launched

end
-- ==== Proof.Quiet.lean ====
/- The frames of the three programs: each runs to its end with its arguments unchanged and every counter at zero. The
   two kernels' are read off their run (`Launched.run`); the reference is host operations alone, and its signature
   declares no counter. -/
module

public import proofs.«01_k».proof.Defs
public import proofs.«01_k».proof.Proof.Kernel.Launched
public import proofs.«01_k».proof.Proof.KernelIdeal.Launched
public import proofs.«01_k».proof.Proof.Gen.ReferenceIdeal.Run

@[expose] public section

noncomputable section

namespace Cert.Quiet

open Idealize.ShloMosaic Idealize.SL.Sem

theorem kernel : Cert.quiescent_Kernel := fun m g _ =>
  (θ_run _ _ _).mono (fun r h => ⟨fun c =>
    ⟨Kernel.Launched.arg_end m c (h.1 c) Kernel.main_arg0 (by decide) (by decide),
     Kernel.Launched.arg_end m c (h.1 c) Kernel.main_arg1 (by decide) (by decide),
     Kernel.Launched.arg_end m c (h.1 c) Kernel.main_arg2 (by decide) (by decide),
     Kernel.Launched.arg_end m c (h.1 c) Kernel.main_arg3 (by decide) (by decide),
     Kernel.Launched.arg_end m c (h.1 c) Kernel.main_arg4 (by decide) (by decide),
     Kernel.Launched.arg_end m c (h.1 c) Kernel.main_arg5 (by decide) (by decide),
     Kernel.Launched.arg_end m c (h.1 c) Kernel.main_arg6 (by decide) (by decide)⟩, h.2⟩) (Kernel.Launched.run m g)

theorem kernelIdeal : Cert.quiescent_KernelIdeal := fun m g _ =>
  (θ_run _ _ _).mono (fun r h => ⟨fun c =>
    ⟨KernelIdeal.Launched.arg_end m c (h.1 c) KernelIdeal.main_arg0 (by decide) (by decide),
     KernelIdeal.Launched.arg_end m c (h.1 c) KernelIdeal.main_arg1 (by decide) (by decide),
     KernelIdeal.Launched.arg_end m c (h.1 c) KernelIdeal.main_arg2 (by decide) (by decide),
     KernelIdeal.Launched.arg_end m c (h.1 c) KernelIdeal.main_arg3 (by decide) (by decide),
     KernelIdeal.Launched.arg_end m c (h.1 c) KernelIdeal.main_arg4 (by decide) (by decide),
     KernelIdeal.Launched.arg_end m c (h.1 c) KernelIdeal.main_arg5 (by decide) (by decide),
     KernelIdeal.Launched.arg_end m c (h.1 c) KernelIdeal.main_arg6 (by decide) (by decide)⟩, h.2⟩) (KernelIdeal.Launched.run m g)

theorem referenceIdeal : Cert.quiescent_ReferenceIdeal := fun m g _ =>
  (θ_run _ _ _).mono (fun r h => ⟨fun c => (h c).2, funext fun s => nomatch s⟩) (ReferenceIdeal.Value.run m g)

end Cert.Quiet

end
-- ==== Proof.Value.Order.lean ====
/- Which position a ranking puts first, and which second. A position leads a set of positions when its value is the
   greatest there and, among equals, its index the least; there is one leader at most. A stable descending sort puts
   the leader of all positions first and the leader of the others second. -/
module

public import Idealize.ShloMosaic.Lib.SortFacts

@[expose] public section

namespace Cert.Order

open Idealize.ShloMosaic

variable {α : Type} [LinearOrder α] {n : ℕ}

/-- Position `p` leads the set `S` under the values `v`. -/
structure Leads (v : Fin n → α) (S : Fin n → Prop) (p : Fin n) : Prop where
  mem : S p
  top : ∀ q, S q → v q < v p ∨ (v q = v p ∧ p ≤ q)

theorem Leads.le {v : Fin n → α} {S : Fin n → Prop} {p : Fin n} (h : Leads v S p) {q : Fin n} (hq : S q) : v q ≤ v p := by
  rcases h.top q hq with h | h
  · exact h.le
  · exact h.1.le

theorem Leads.least {v : Fin n → α} {S : Fin n → Prop} {p : Fin n} (h : Leads v S p) {q : Fin n} (hq : S q) (he : v q = v p) : p ≤ q := by
  rcases h.top q hq with h | h
  · exact absurd he h.ne
  · exact h.2

theorem Leads.unique {v : Fin n → α} {S : Fin n → Prop} {p q : Fin n} (hp : Leads v S p) (hq : Leads v S q) : p = q := by
  have e : v p = v q := le_antisymm (hq.le hp.mem) (hp.le hq.mem)
  exact le_antisymm (hp.least hq.mem e.symm) (hq.least hp.mem e)

/-- The order of a descending ranking that keeps equal values in index order. -/
def Above (v : Fin n → α) (a b : Fin n) : Prop := v b < v a ∨ (v b = v a ∧ a < b)

theorem above_insert (v : Fin n → α) (a : Fin n) (l : List (Fin n)) (ha : ∀ b ∈ l, a < b) (hl : l.Pairwise (Above v)) :
    (insertBefore (fun x y => decide (v y < v x)) a l).Pairwise (Above v) := by
  induction l with
  | nil => simp [insertBefore]
  | cons b l ih =>
    obtain ⟨hb, hl'⟩ := List.pairwise_cons.mp hl
    unfold insertBefore
    split
    · rename_i hba
      have hba : v a < v b := by simpa using hba
      refine List.pairwise_cons.mpr ⟨fun c hc => ?_, ih (fun c hc => ha c (List.mem_cons_of_mem _ hc)) hl'⟩
      rcases List.mem_cons.mp ((perm_insertBefore _ a l).mem_iff.mp hc) with rfl | hc
      · exact Or.inl hba
      · exact hb c hc
    · rename_i hba
      have hba : v b ≤ v a := by simpa using hba
      refine List.pairwise_cons.mpr ⟨fun c hc => ?_, hl⟩
      have hac := ha c hc
      have hca : v c ≤ v a := by
        rcases List.mem_cons.mp hc with rfl | hc
        · exact hba
        · rcases hb c hc with h | h
          · exact h.le.trans hba
          · exact h.1.le.trans hba
      rcases hca.lt_or_eq with h | h
      · exact Or.inl h
      · exact Or.inr ⟨h, hac⟩

theorem above_sort (v : Fin n → α) (l : List (Fin n)) (hl : l.Pairwise (· < ·)) :
    (stableSort (fun x y => decide (v y < v x)) l).Pairwise (Above v) := by
  induction l with
  | nil => simp [stableSort]
  | cons a l ih =>
    obtain ⟨ha, hl'⟩ := List.pairwise_cons.mp hl
    exact above_insert v a _ (fun b hb => ha b ((perm_stableSort _ l).mem_iff.mp hb)) (ih hl')

theorem above_sortedFrom (v : Fin n → α) {i j : Fin n} (h : i < j) :
    Above v (sortedFrom (fun x y => decide (v y < v x)) i) (sortedFrom (fun x y => decide (v y < v x)) j) := by
  have hp : (sortPositions n (fun x y => decide (v y < v x))).Pairwise (Above v) := above_sort v _ (List.pairwise_lt_finRange n)
  exact List.pairwise_iff_get.mp hp _ _ (by simpa using h)

/-- The stable descending sort puts the leader of all positions first. -/
theorem leads_first (v : Fin n → α) (i : Fin n) (hi : i.val = 0) :
    Leads v (fun _ => True) (sortedFrom (fun x y => decide (v y < v x)) i) where
  mem := trivial
  top q _ := by
    obtain ⟨k, rfl⟩ := sortedFrom_surjective (fun x y => decide (v y < v x)) q
    rcases Nat.eq_zero_or_pos k.val with h | h
    · obtain rfl : k = i := Fin.ext (h.trans hi.symm)
      exact Or.inr ⟨rfl, le_rfl⟩
    · rcases above_sortedFrom v (i := i) (j := k) (Fin.lt_def.mpr (hi ▸ h)) with h | h
      · exact Or.inl h
      · exact Or.inr ⟨h.1, h.2.le⟩

/-- It puts the leader of the others second. -/
theorem leads_second (v : Fin n → α) (i j : Fin n) (hi : i.val = 0) (hj : j.val = 1) :
    Leads v (fun q => q ≠ sortedFrom (fun x y => decide (v y < v x)) i) (sortedFrom (fun x y => decide (v y < v x)) j) where
  mem h := absurd (congrArg Fin.val (sortedFrom_injective _ h)) (by omega)
  top q hq := by
    obtain ⟨k, rfl⟩ := sortedFrom_surjective (fun x y => decide (v y < v x)) q
    have hk : k ≠ i := fun h => hq (by rw [h])
    have hk0 : k.val ≠ 0 := fun h => hk (Fin.ext (h.trans hi.symm))
    rcases Nat.lt_or_ge 1 k.val with h | h
    · rcases above_sortedFrom v (i := j) (j := k) (Fin.lt_def.mpr (hj ▸ h)) with h | h
      · exact Or.inl h
      · exact Or.inr ⟨h.1, h.2.le⟩
    · obtain rfl : k = j := Fin.ext (by omega)
      exact Or.inr ⟨rfl, le_rfl⟩

end Cert.Order
-- ==== Proof.Value.Pick.lean ====
/- The router's choice among 128 lanes, on one row of scores: the greatest score, the least lane that has it, the
   same again with that lane struck out, and the two gates divided by their sum. Where the lanes past the eighth
   score below the first eight, it is the choice among the eight. -/
module

public import proofs.«01_k».proof.Proof.Value.Order
public import Idealize.ShloMosaic.Lib.Pointwise
public import Idealize.ShloMosaic.Lib.WordCmp

@[expose] public section

set_option maxRecDepth 16384

noncomputable section

namespace Cert.Pick

open Idealize.ShloMosaic Cert.Order

/-- A fold meets an element that absorbs all the others, and the start, at that element. -/
theorem fold_absorb {ι β : Type} [DecidableEq ι] (op : β → β → β) [Std.Commutative op] [Std.Associative op] (b : β) (f : ι → β) (s : Finset ι) (p : ι)
    (hp : p ∈ s) (hb : op (f p) b = f p) (hq : ∀ q ∈ s, op (f p) (f q) = f p) : s.fold op b f = f p := by
  have key : ∀ r : Finset ι, r ⊆ s → op (f p) (r.fold op b f) = f p := by
    intro r
    induction r using Finset.induction_on with
    | empty => intro _; simpa using hb
    | insert a r ha ih =>
      intro hr
      rw [Finset.fold_insert ha, ← Std.Associative.assoc (op := op), hq a (hr (Finset.mem_insert_self _ _))]
      exact ih fun x hx => hr (Finset.mem_insert_of_mem hx)
  rw [← Finset.insert_erase hp, Finset.fold_insert (Finset.notMem_erase _ _)]
  exact key _ (Finset.erase_subset _ _)

/-- The number of the lane: the least one holding the greatest score. -/
def lane (v : Fin 128 → EReal) : BitVec 32 :=
  Finset.univ.fold IntOp.minsi 2147483647#32
    (fun x => if v x = Finset.univ.fold max ⊥ v then BitVec.ofNat 32 x.val else 128#32)

theorem minsi_le {a b : ℕ} (h : a ≤ b) (hb : b < 2 ^ 31) : IntOp.minsi (BitVec.ofNat 32 a) (BitVec.ofNat 32 b) = BitVec.ofNat 32 a := by
  have e (n : ℕ) (hn : n < 2 ^ 31) : (BitVec.ofNat 32 n).toInt = (n : ℤ) := WordCmp.toInt_ofNat_of_lt hn
  unfold IntOp.minsi
  simp only [BitVec.slt, decide_eq_true_eq]
  rw [e a (by omega), e b hb]
  split
  · rfl
  · congr 1; omega

theorem lane_of_leads {v : Fin 128 → EReal} {p : Fin 128} (h : Leads v (fun _ => True) p) : lane v = BitVec.ofNat 32 p.val := by
  have hm : Finset.univ.fold max ⊥ v = v p :=
    fold_absorb max ⊥ v _ p (Finset.mem_univ _) (max_eq_left bot_le) fun q _ => max_eq_left (h.le trivial)
  unfold lane
  rw [hm]
  have hp : (if v p = v p then BitVec.ofNat 32 p.val else 128#32) = BitVec.ofNat 32 p.val := if_pos rfl
  refine (fold_absorb IntOp.minsi _ (fun x : Fin 128 => if v x = v p then BitVec.ofNat 32 x.val else 128#32) _ p (Finset.mem_univ _) ?_ fun q _ => ?_).trans hp
  · show IntOp.minsi (if v p = v p then _ else _) _ = _
    rw [hp]
    exact minsi_le (b := 2147483647) (by omega) (by norm_num)
  · show IntOp.minsi (if v p = v p then _ else _) _ = _
    rw [hp]
    split
    · rename_i e
      exact minsi_le (h.least trivial e) (by omega)
    · exact minsi_le (b := 128) (by omega) (by norm_num)

/-- The choice on a word that is a lane's number. -/
theorem on_lane {α : Type} (x p : Fin 128) (a b : α) :
    Scalar.select (IntOp.cmpi .eq (BitVec.ofNat 32 x.val) (BitVec.ofNat 32 p.val)) a b = if x = p then a else b := by
  rw [WordCmp.cmpi_eq_eq, WordCmp.select_decide]
  refine if_congr ?_ rfl rfl
  rw [WordCmp.ofNat_eq_ofNat_iff (by omega) (by omega)]
  exact Fin.ext_iff.symm

/-- The row with one lane struck out. -/
def struck (v : Fin 128 → EReal) (w : BitVec 32) (x : Fin 128) : EReal :=
  Scalar.select (IntOp.cmpi .eq (BitVec.ofNat 32 x.val) w) ⊥ (v x)

/-- One lane's entry, found by summing the row with the other lanes at zero. -/
def entry (g : Fin 128 → EReal) (w : BitVec 32) : EReal :=
  ∑ x, Scalar.select (IntOp.cmpi .eq (BitVec.ofNat 32 x.val) w) (g x) 0

theorem entry_lane (g : Fin 128 → EReal) (p : Fin 128) : entry g (BitVec.ofNat 32 p.val) = g p := by
  unfold entry
  simp only [on_lane]
  rw [Finset.sum_ite_eq' Finset.univ p g, if_pos (Finset.mem_univ _)]

/-- What the router writes at lane `x` of a row with scores `v` and gate values `g`, `z` the least divisor. -/
def written (v g : Fin 128 → EReal) (z : EReal) (x : Fin 128) : EReal :=
  Scalar.select (IntOp.cmpi .eq (BitVec.ofNat 32 x.val) (lane v))
    (Ideal.div (entry g (lane v)) (max (entry g (lane v) + entry g (lane (struck v (lane v)))) z))
    (Scalar.select (IntOp.cmpi .eq (BitVec.ofNat 32 x.val) (lane (struck v (lane v))))
      (Ideal.div (entry g (lane (struck v (lane v)))) (max (entry g (lane v) + entry g (lane (struck v (lane v)))) z)) 0)

/-- The gates of a row of eight whose two best positions are `p` and `q`. -/
def gate (g : Fin 8 → EReal) (z : EReal) (p q e : Fin 8) : EReal :=
  if e = p then Ideal.div (g p) (max (g p + g q) z) else if e = q then Ideal.div (g q) (max (g p + g q) z) else 0

/-- One of the first eight lanes. -/
abbrev early (e : Fin 8) : Fin 128 := Fin.castLE (by norm_num) e

/-- The leader among the eight leads all the lanes of a set whose other members score less. -/
theorem leads_early {v : Fin 128 → EReal} {u : Fin 8 → EReal} (hu : ∀ e, v (early e) = u e) (hpad : ∀ x : Fin 128, 8 ≤ x.val → ∀ e, v x < u e)
    {S : Fin 128 → Prop} {p : Fin 8} (h : Leads u (fun e => S (early e)) p) : Leads v S (early p) where
  mem := h.mem
  top x hx := by
    rw [hu p]
    rcases Nat.lt_or_ge x.val 8 with h8 | h8
    · obtain ⟨e, rfl⟩ : ∃ e : Fin 8, x = early e := ⟨⟨x.val, h8⟩, rfl⟩
      rw [hu e]
      exact h.top e hx
    · exact Or.inl (hpad x h8 p)

theorem early_inj {a b : Fin 8} : early a = early b ↔ a = b := by
  rw [Fin.ext_iff, Fin.ext_iff]; rfl

/-- The router's row at the first eight lanes. -/
theorem written_early {v g : Fin 128 → EReal} {u k : Fin 8 → EReal} (z : EReal) (hu : ∀ e, v (early e) = u e) (hk : ∀ e, g (early e) = k e)
    (hpad : ∀ x : Fin 128, 8 ≤ x.val → ∀ e, v x < u e) (hbot : ∀ e, ⊥ < u e)
    {p q : Fin 8} (hp : Leads u (fun _ => True) p) (hq : Leads u (fun e => e ≠ p) q) (e : Fin 8) :
    written v g z (early e) = gate k z p q e := by
  have ep : lane v = BitVec.ofNat 32 (early p).val := lane_of_leads (leads_early hu hpad hp)
  have eq : lane (struck v (BitVec.ofNat 32 (early p).val)) = BitVec.ofNat 32 (early q).val := by
    refine lane_of_leads ⟨trivial, fun x _ => ?_⟩
    have hs (x : Fin 128) : struck v (BitVec.ofNat 32 (early p).val) x = if x = early p then ⊥ else v x := on_lane x (early p) ⊥ (v x)
    have hqp : early q ≠ early p := fun h => hq.mem (early_inj.mp h)
    rw [hs, hs, if_neg hqp]
    split
    · rw [hu q]; exact Or.inl (hbot q)
    · rename_i hx
      exact (leads_early (S := fun x => x ≠ early p) hu hpad
        ⟨hqp, fun e he => hq.top e fun h => he (h ▸ rfl)⟩).top x hx
  unfold written gate
  rw [ep, eq]
  simp only [on_lane, entry_lane, hk, early_inj]

end Cert.Pick
-- ==== Proof.Value.Consts.lean ====
/- The numbers that the programs' and the precondition's bit patterns stand for. -/
module

public import Idealize.ShloMosaic.Lib.IdealHost
public import Idealize.ShloMosaic.PureOps.Ideal

@[expose] public section

noncomputable section

namespace Cert.Consts

open Idealize.ShloMosaic

theorem width : Ideal.ofBits .f32 0x44400000#32 = ((768 : ℝ) : EReal) := by
  simp [Ideal.ofBits, Ideal.ieee, -EReal.coe_mul]; norm_num
theorem tiny : Ideal.ofBits .f32 0x34000000#32 = ((1 / 2 ^ 23 : ℝ) : EReal) := by
  simp [Ideal.ofBits, Ideal.ieee, -EReal.coe_mul]; norm_num
theorem base : Ideal.ofBits .f32 0x461C4000#32 = ((10000 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem last : Ideal.ofBits .f32 0x41F80000#32 = ((31 : ℝ) : EReal) := by
  simp [Ideal.ofBits, Ideal.ieee, -EReal.coe_mul]; norm_num
theorem lowest : Ideal.ofBits .f32 0xFF800000#32 = (⊥ : EReal) := by
  simp [Ideal.ofBits, Ideal.ieee, -EReal.coe_mul]
theorem padded : Ideal.ofBits .f32 0xF149F2CA#32 = ((-(13234890 * 2 ^ 76) : ℝ) : EReal) := by
  rw [show (-(13234890 * 2 ^ 76) : ℝ) = -1000000015047466219876688855040 by norm_num]
  simp [Ideal.ofBits, Ideal.ieee, -EReal.coe_mul]; norm_num
theorem key_high : Ideal.ofBits .f32 0x6A800000#32 = ((2 ^ 86 : ℝ) : EReal) := by
  rw [show (2 ^ 86 : ℝ) = 77371252455336267181195264 by norm_num]
  simp [Ideal.ofBits, Ideal.ieee, -EReal.coe_mul]; norm_num
theorem key_low : Ideal.ofBits .f32 0xEA800000#32 = ((-(2 ^ 86) : ℝ) : EReal) := by
  rw [show (-(2 ^ 86) : ℝ) = -77371252455336267181195264 by norm_num]
  simp [Ideal.ofBits, Ideal.ieee, -EReal.coe_mul]; norm_num
theorem bias_low : Ideal.ofBits .f32 0xF1000000#32 = ((-(2 ^ 99) : ℝ) : EReal) := by
  rw [show (-(2 ^ 99) : ℝ) = -633825300114114700748351602688 by norm_num]
  simp [Ideal.ofBits, Ideal.ieee, -EReal.coe_mul]; norm_num

end Cert.Consts
-- ==== Proof.Value.Row.lean ====
/- One token's router scores, over the extended reals: the query scaled by its root mean square, rotated by the angle
   table, and multiplied into the keys. The scaled query is real and at most 28 in size whatever the query is, so the
   scores are real and bounded by the keys. -/
module

public import proofs.«01_k».proof.Proof.Value.Consts

@[expose] public section

noncomputable section

namespace Cert.Row

open Idealize.ShloMosaic

/-- A real number of size at most `B`. -/
def Within (B : ℝ) (a : EReal) : Prop := ∃ r : ℝ, a = (r : EReal) ∧ |r| ≤ B

theorem Within.mul {A B : ℝ} {a b : EReal} (ha : Within A a) (hb : Within B b) : Within (A * B) (a * b) := by
  obtain ⟨r, rfl, hr⟩ := ha
  obtain ⟨s, rfl, hs⟩ := hb
  refine ⟨r * s, (EReal.coe_mul r s).symm, ?_⟩
  rw [abs_mul]
  exact mul_le_mul hr hs (abs_nonneg s) ((abs_nonneg r).trans hr)

theorem Within.add {A B : ℝ} {a b : EReal} (ha : Within A a) (hb : Within B b) : Within (A + B) (a + b) := by
  obtain ⟨r, rfl, hr⟩ := ha
  obtain ⟨s, rfl, hs⟩ := hb
  exact ⟨r + s, (EReal.coe_add r s).symm, (abs_add_le r s).trans (add_le_add hr hs)⟩

theorem Within.neg {A : ℝ} {a : EReal} (ha : Within A a) : Within A (-a) := by
  obtain ⟨r, rfl, hr⟩ := ha
  exact ⟨-r, (EReal.coe_neg r).symm, by rwa [abs_neg]⟩

theorem coe_sum {n : ℕ} (r : Fin n → ℝ) : ∑ i, (r i : EReal) = ((∑ i, r i : ℝ) : EReal) := by
  induction n with
  | zero => simp
  | succ n ih => rw [Fin.sum_univ_succ, Fin.sum_univ_succ, EReal.coe_add, ih]

theorem Within.sum {n : ℕ} {B : ℝ} {f : Fin n → EReal} (h : ∀ i, Within B (f i)) : Within (n * B) (∑ i, f i) := by
  choose r hr hB using h
  refine ⟨∑ i, r i, ?_, ?_⟩
  · rw [Finset.sum_congr rfl fun i _ => hr i]
    exact coe_sum r
  · refine (Finset.abs_sum_le_sum_abs _ _).trans ((Finset.sum_le_sum fun i _ => hB i).trans ?_)
    simp

theorem Within.cos (r : ℝ) : Within 1 (Ideal.cos (r : EReal)) := ⟨Real.cos r, rfl, Real.abs_cos_le_one r⟩
theorem Within.sin (r : ℝ) : Within 1 (Ideal.sin (r : EReal)) := ⟨Real.sin r, rfl, Real.abs_sin_le_one r⟩

/-- The query's mean square and the small number added to it. -/
def spread (q : Fin 768 → EReal) : EReal :=
  Ideal.div (∑ j, q j * q j) (Ideal.ofBits .f32 0x44400000#32) + Ideal.ofBits .f32 0x34000000#32

/-- The query divided by its root mean square. -/
def scaled (q : Fin 768 → EReal) (j : Fin 768) : EReal := Ideal.div (q j) (Ideal.sqrt (spread q))

theorem square_nonneg (a : EReal) : 0 ≤ a * a := by
  induction a with
  | bot => simp
  | top => simp
  | coe r => rw [← EReal.coe_mul]; exact_mod_cast mul_self_nonneg r

theorem real_of_square_le {a : EReal} {s : ℝ} (h : a * a ≤ (s : EReal)) : ∃ r : ℝ, a = (r : EReal) ∧ r * r ≤ s := by
  induction a with
  | bot => simp at h
  | top => simp at h
  | coe r => exact ⟨r, rfl, by rw [← EReal.coe_mul] at h; exact_mod_cast h⟩

theorem spread_cases (q : Fin 768 → EReal) :
    spread q = ⊤ ∨ ∃ r : ℝ, spread q = (r : EReal) ∧ 0 < r ∧ ∀ j, ∃ s : ℝ, q j = (s : EReal) ∧ s * s ≤ 768 * r := by
  have h0 : 0 ≤ ∑ j, q j * q j := Finset.sum_nonneg fun j _ => square_nonneg (q j)
  have hle (j : Fin 768) : q j * q j ≤ ∑ j, q j * q j := Finset.single_le_sum (f := fun j => q j * q j) (fun j _ => square_nonneg (q j)) (Finset.mem_univ j)
  unfold spread
  rw [Consts.width, Consts.tiny, Ideal.div_coe (by norm_num : (768 : ℝ) ≠ 0)]
  generalize ∑ j, q j * q j = S at h0 hle
  induction S with
  | bot => simp at h0
  | top =>
    left
    rw [EReal.top_mul_coe_of_pos (by norm_num), EReal.top_add_coe]
  | coe s =>
    right
    have hs : 0 ≤ s := by exact_mod_cast h0
    refine ⟨s * (1 / 768) + 1 / 2 ^ 23, by rw [EReal.coe_add, EReal.coe_mul], by positivity, fun j => ?_⟩
    obtain ⟨r, hr, hrs⟩ := real_of_square_le (hle j)
    refine ⟨r, hr, hrs.trans ?_⟩
    have : (0 : ℝ) ≤ 768 * (1 / 2 ^ 23) := by positivity
    linarith

/-- Multiplying by the reciprocal root is dividing by the root. -/
theorem scaled_eq (q : Fin 768 → EReal) (j : Fin 768) : q j * Ideal.rsqrt (spread q) = scaled q j := by
  unfold scaled
  rcases spread_cases q with h | ⟨r, h, hr, -⟩
  · rw [h, Ideal.rsqrt_top, Ideal.sqrt_top]
    unfold Ideal.div
    rw [if_neg (by simp), EReal.inv_top]
  · have hp : 0 < Real.sqrt r := Real.sqrt_pos.mpr hr
    rw [h, Ideal.rsqrt_coe, Ideal.sqrt_coe, if_neg hr.not_gt, if_neg hr.ne', if_neg hr.not_gt, Ideal.div_coe hp.ne', one_div]

theorem scaled_within (q : Fin 768 → EReal) (j : Fin 768) : Within 28 (scaled q j) := by
  rw [← scaled_eq]
  rcases spread_cases q with h | ⟨r, h, hr, hq⟩
  · rw [h, Ideal.rsqrt_top, mul_zero]
    exact ⟨0, rfl, by norm_num⟩
  · obtain ⟨s, hs, hss⟩ := hq j
    rw [h, Ideal.rsqrt_coe, if_neg hr.not_gt, if_neg hr.ne', hs]
    refine ⟨s * (Real.sqrt r)⁻¹, (EReal.coe_mul _ _).symm, abs_le_of_sq_le_sq ?_ (by norm_num)⟩
    rw [mul_pow, inv_pow, Real.sq_sqrt hr.le, ← div_eq_mul_inv, div_le_iff₀ hr]
    nlinarith

/-- The rotation by the forward angles (first half) and the reverse ones (second half). -/
def turn (h : Fin 768 → EReal) (cf sf cr sr : Fin 384 → EReal) (j : Fin 768) : EReal :=
  if hj : j.val < 384 then h j * cf ⟨j.val, hj⟩ + h ⟨384 + j.val, by omega⟩ * sf ⟨j.val, hj⟩
  else h ⟨j.val - 384, by omega⟩ * -sr ⟨j.val - 384, by omega⟩ + h ⟨384 + (j.val - 384), by omega⟩ * cr ⟨j.val - 384, by omega⟩

theorem turn_within {h : Fin 768 → EReal} {cf sf cr sr : Fin 384 → EReal} (hh : ∀ j, Within 28 (h j)) (hcf : ∀ i, Within 1 (cf i)) (hsf : ∀ i, Within 1 (sf i))
    (hcr : ∀ i, Within 1 (cr i)) (hsr : ∀ i, Within 1 (sr i)) (j : Fin 768) : Within (28 * 1 + 28 * 1) (turn h cf sf cr sr j) := by
  unfold turn
  split
  · exact ((hh _).mul (hcf _)).add ((hh _).mul (hsf _))
  · exact ((hh _).mul (hsr _).neg).add ((hh _).mul (hcr _))

/-- The score of a rotated query at one key. -/
def score (r k : Fin 768 → EReal) : EReal := (∑ j, r j * k j) * (((Real.sqrt 768)⁻¹ : ℝ) : EReal)

theorem score_eq (r k : Fin 768 → EReal) : Ideal.div (∑ j, r j * k j) (Ideal.sqrt (Ideal.ofBits .f32 0x44400000#32)) = score r k := by
  rw [Consts.width, Ideal.sqrt_coe, if_neg (by norm_num), Ideal.div_coe (Real.sqrt_pos.mpr (by norm_num)).ne', one_div]
  rfl

theorem score_within {r k : Fin 768 → EReal} (hr : ∀ j, Within (28 * 1 + 28 * 1) (r j)) (hk : ∀ j, Within (2 ^ 86) (k j)) : Within (2 ^ 97) (score r k) := by
  have hs : Within (1 / 27) (((Real.sqrt 768)⁻¹ : ℝ) : EReal) := by
    refine ⟨_, rfl, ?_⟩
    have h27 : (27 : ℝ) ≤ Real.sqrt 768 := Real.le_sqrt_of_sq_le (by norm_num)
    rw [abs_of_nonneg (by positivity), one_div]
    exact inv_anti₀ (by norm_num) h27
  obtain ⟨s, hs, hb⟩ := (Within.sum fun j => (hr j).mul (hk j)).mul hs
  exact ⟨s, hs, hb.trans (by norm_num)⟩

/-- The padding's score lies below every biased score. -/
theorem padded_lt {a b : EReal} (ha : Within (2 ^ 97) a) (hb : ((-(2 ^ 99) : ℝ) : EReal) ≤ b) : Ideal.ofBits .f32 0xF149F2CA#32 < a + b := by
  obtain ⟨r, rfl, hr⟩ := ha
  refine lt_of_lt_of_le ?_ (add_le_add_right hb _)
  rw [Consts.padded, ← EReal.coe_add, EReal.coe_lt_coe_iff]
  have := (abs_le.mp hr).1
  norm_num at this ⊢
  linarith

end Cert.Row
-- ==== Proof.Value.Gates.lean ====
/- What the router call's body stores, read at one row and lane. -/
module

public import proofs.«01_k».proof.Proof.KernelIdeal.Router
public import proofs.«01_k».proof.Proof.Value.Pick
public import proofs.«01_k».proof.Proof.Value.Row

@[expose] public section

set_option maxRecDepth 16384

noncomputable section

namespace Cert.KernelIdeal.Gates

open Cert.KernelIdeal Cert.KernelIdeal.Gen Cert.KernelIdeal.Route
open Idealize.ShloMosaic Idealize.ShloMosaic.TcCoe Idealize.ShloMosaic.Tactic

variable (x : Vec Ideal S256x768 .f32) (wr : Vec Ideal S768x768 .f32) (ek : Vec Ideal S128x768 .f32) (bi : Vec Ideal S8x128 .f32) (tr : Vec Ideal S8x384 .f32)

/-- The rotated query of row `p`. -/
def row (p : Fin 256) : Fin 768 → EReal :=
  Row.turn (Row.scaled fun j => ∑ k, x (ix2 p k) * wr (ix2 j k)) (fun i => tr (ix2 0 i)) (fun i => tr (ix2 1 i)) (fun i => tr (ix2 2 i)) fun i => tr (ix2 3 i)

theorem turned_at (p : Fin 256) (j : Fin 768) : turned x wr tr (ix2 p j) = row x wr tr p j := by
  unfold row Row.turn
  simp only [← Row.scaled_eq]
  unfold Row.spread
  pointwise [turned, k0_pay2]
  simp only [zero_sub, neg_mul, mul_neg]

/-- The score of row `p` at lane `l`, before the bias. -/
def raw (p : Fin 256) (l : Fin 128) : EReal := Row.score (row x wr tr p) fun j => ek (ix2 l j)

theorem scored_at (p : Fin 256) (l : Fin 128) : k0_pay4 (F := Ideal) (turned x wr tr) (keyed ek) noLogits (ix2 p l) = raw x wr ek tr p l := by
  pointwise [k0_pay4, noLogits, keyed, k0_pay3]
  simp only [turned_at]
  rfl

theorem picked_at (p : Fin 256) (l : Fin 128) :
    picked x wr ek bi tr (ix2 p l)
      = Pick.written (fun l => raw x wr ek tr p l + bi (ix2 0 l)) (fun l => Ideal.logistic (raw x wr ek tr p l)) (Ideal.ofBits .f32 0x3089705F#32) l := by
  have e6 (l : Fin 128) : k0_pay6 (F := Ideal) (turned x wr tr) (keyed ek) noLogits (View.ld bi rb) (ix2 p l) = raw x wr ek tr p l + bi (ix2 0 l) := by
    pointwise [k0_pay6]
    rw [scored_at]
  have e5 (l : Fin 128) : k0_pay5 (F := Ideal) (turned x wr tr) (keyed ek) noLogits (ix2 p l) = Ideal.logistic (raw x wr ek tr p l) := by
    pointwise [k0_pay5]
    rw [scored_at]
  have e7 : k0_pay7 (F := Ideal) (turned x wr tr) (keyed ek) noLogits (View.ld bi rb) (ix2 p 0) = Pick.lane fun l => raw x wr ek tr p l + bi (ix2 0 l) := by
    pointwise [k0_pay7]
    simp only [e6, Consts.lowest]
    rfl
  have e8 : k0_pay8 (F := Ideal) (turned x wr tr) (keyed ek) noLogits (View.ld bi rb) (ix2 p 0)
      = Pick.lane (Pick.struck (fun l => raw x wr ek tr p l + bi (ix2 0 l)) (Pick.lane fun l => raw x wr ek tr p l + bi (ix2 0 l))) := by
    pointwise [k0_pay8]
    simp only [e6, e7, Consts.lowest]
    rfl
  pointwise [picked, k0_pay1, k0_pay12, k0_pay11, k0_pay10, k0_pay9]
  simp only [e5, e7, e8]
  rfl

end Cert.KernelIdeal.Gates
-- ==== Proof.Value.Filled.lean ====
/- The gates array when the router call has ended, at every row and lane, from the arrays the call was given. -/
module

public import proofs.«01_k».proof.Proof.Value.Gates
public import Idealize.ShloMosaic.Lib.Pipeline.ValueKit

@[expose] public section

set_option maxRecDepth 16384

noncomputable section

namespace Cert.KernelIdeal.Filled

open Cert.KernelIdeal Cert.KernelIdeal.Gen Cert.KernelIdeal.Route
open Idealize.ShloMosaic Idealize.ShloMosaic.TcCoe Idealize.ShloMosaic.Tactic

/-- The contents of every buffer of every core. -/
abbrev Values := (c : Dev nD) → (b : Ref sig .tc) → Buf (Elt Ideal) ((c : Thread nD τ).loc b)

/-- The score of token `t` at lane `l`, before the bias. -/
def score (x : Vec Ideal S2048x768 .f32) (wr : Vec Ideal S768x768 .f32) (ek : Vec Ideal S128x768 .f32) (tr : Vec Ideal S8x384 .f32)
    (t : Fin 2048) (l : Fin 128) : EReal :=
  Row.score (Row.turn (Row.scaled fun j => ∑ k, x (ix2 t k) * wr (ix2 j k)) (fun i => tr (ix2 0 i)) (fun i => tr (ix2 1 i)) (fun i => tr (ix2 2 i))
    fun i => tr (ix2 3 i)) fun j => ek (ix2 l j)

/-- The gates array. -/
def gates (x : Vec Ideal S2048x768 .f32) (wr : Vec Ideal S768x768 .f32) (ek : Vec Ideal S128x768 .f32) (bi : Vec Ideal S8x128 .f32)
    (tr : Vec Ideal S8x384 .f32) : Vec Ideal S2048x128 .f32 := fun i =>
  Pick.written (fun l => score x wr ek tr (i 0) l + bi (ix2 0 l)) (fun l => Ideal.logistic (score x wr ek tr (i 0) l)) (Ideal.ofBits .f32 0x3089705F#32) (i 1)

variable (V : Values)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![t.val, 0] := by decide +kernel

/-- The array's row that row `p` of point `t`'s block is. -/
def place (t : Fin cfg0.N) (p : Fin 256) : Fin 2048 := ⟨t.val * 256 + p.val, by have := t.isLt; have := (show cfg0.N = 8 from N_0); omega⟩

theorem part_0 (c : Dev nD) (t : Fin cfg0.N) (p : Fin 256) (k : Fin 768) : part V c 0 t (ix2 p k) = V c main_v0 (ix2 (place t p) k) := by
  unfold part place
  blk_ext [idx_0]
theorem part_1 (c : Dev nD) (t : Fin cfg0.N) (j k : Fin 768) : part V c 1 t (ix2 j k) = V c main_arg2 (ix2 j k) := by
  unfold part
  blk_ext [idx_1]
theorem part_2 (c : Dev nD) (t : Fin cfg0.N) (l : Fin 128) (k : Fin 768) : part V c 2 t (ix2 l k) = V c main_v33 (ix2 l k) := by
  unfold part
  blk_ext [idx_2]
theorem part_3 (c : Dev nD) (t : Fin cfg0.N) (r : Fin 8) (l : Fin 128) : part V c 3 t (ix2 r l) = V c main_v38 (ix2 r l) := by
  unfold part
  blk_ext [idx_3]
theorem part_4 (c : Dev nD) (t : Fin cfg0.N) (r : Fin 8) (i : Fin 384) : part V c 4 t (ix2 r i) = V c main_v30 (ix2 r i) := by
  unfold part
  blk_ext [idx_4]

theorem raw_at (c : Dev nD) (t : Fin cfg0.N) (p : Fin 256) (l : Fin 128) :
    Gates.raw (part V c 0 t) (part V c 1 t) (part V c 2 t) (part V c 4 t) p l
      = score (V c main_v0) (V c main_arg2) (V c main_v33) (V c main_v30) (place t p) l := by
  unfold Gates.raw Gates.row score
  simp only [part_0, part_1, part_2, part_4]

/-- The one store covers the block, so the block is what was stored. -/
theorem leaves_eq (x : Vec Ideal S256x768 .f32) (wr : Vec Ideal S768x768 .f32) (ek : Vec Ideal S128x768 .f32) (bi : Vec Ideal S8x128 .f32)
    (tr : Vec Ideal S8x384 .f32) : leaves x wr ek bi tr = picked x wr ek bi tr := by
  unfold leaves
  exact View.canon_unit_zero (Val := Elt Ideal) (S := S256x128) (e := .f32) (off := ![0, 0]) (by funext a; fin_cases a <;> rfl)
    inb_S256x128_S256x128_0_0 (picked x wr ek bi tr)

/-- The gates array after the call. -/
theorem gates_arr (c : Dev nD) : (Route.dat V c).arrAt 5 cfg0.N
    = (show Buf (Elt Ideal) ((c : Thread nD τ).loc main_v39) from gates (V c main_v0) (V c main_arg2) (V c main_v33) (V c main_v38) (V c main_v30)) := by
  refine (Route.dat V c).arrAt_eq_of_covers 5 _ (by decide +kernel) fun t hf y => ?_
  rw [Route.after_5, leaves_eq]
  idx_vars y
  have hx : ((win0 5).xinj (grid0.coords t) (ix2 y0 y1)) = (ix2 y0 y1 : S256x128.Idx) := by blk_ext
  have he : (((View.whole main_v39).slice ((win0 5).rect t)).emb (ix2 y0 y1)) = (ix2 (place t y0) y1 : S2048x128.Idx) := by
    unfold place
    blk_ext [idx_5]
  rw [hx, he]
  rw [Gates.picked_at]
  refine (cast_eq _ _).trans ?_
  simp only [raw_at, part_3]
  rfl

end Cert.KernelIdeal.Filled
-- ==== Proof.Value.Mixed.lean ====
/- The result array when the expert call has ended, at every row and column: the experts' outputs, each times its gate,
   added up. -/
module

public import proofs.«01_k».proof.Proof.KernelIdeal.Experts
public import proofs.«01_k».proof.Proof.Value.Filled

@[expose] public section

set_option maxRecDepth 16384

noncomputable section

namespace Cert.KernelIdeal.Mixed

open Cert.KernelIdeal Cert.KernelIdeal.Gen Cert.KernelIdeal.Mix
open Cert.KernelIdeal.Filled (Values)
open Idealize.ShloMosaic Idealize.ShloMosaic.TcCoe Idealize.ShloMosaic.Tactic

/-- Expert `e`'s output for token `t` at column `j`. -/
def expert (x : Vec Ideal S2048x768 .f32) (wf : Vec Ideal S8x1536x768 .f32) (wp : Vec Ideal S8x768x1536 .f32) (e : Fin 8) (t : Fin 2048) (j : Fin 768) : EReal :=
  ∑ h, max (∑ k, x (ix2 t k) * wf (ix3 e h k)) 0 * max (∑ k, x (ix2 t k) * wf (ix3 e h k)) 0 * wp (ix3 e j h)

/-- What expert number `n` adds to the result. -/
def share (x : Vec Ideal S2048x768 .f32) (g : Vec Ideal S2048x128 .f32) (wf : Vec Ideal S8x1536x768 .f32) (wp : Vec Ideal S8x768x1536 .f32)
    (t : Fin 2048) (j : Fin 768) (n : ℕ) : EReal :=
  if h : n < 8 then g (ix2 t (Pick.early ⟨n, h⟩)) * expert x wf wp ⟨n, h⟩ t j else 0

/-- The result array. -/
def result (x : Vec Ideal S2048x768 .f32) (g : Vec Ideal S2048x128 .f32) (wf : Vec Ideal S8x1536x768 .f32) (wp : Vec Ideal S8x768x1536 .f32) :
    Vec Ideal S2048x768 .f32 := fun i => ∑ n ∈ Finset.range 8, share x g wf wp (i 0) (i 1) n

variable (V : Values)

theorem idx_0 : ∀ t : Fin cfg1.N, win1_0.index t = ![0, 0] := by decide +kernel
theorem idx_1 : ∀ t : Fin cfg1.N, win1_1.index t = ![0, 0] := by decide +kernel
theorem idx_2 : ∀ t : Fin cfg1.N, win1_2.index t = ![t.val, 0, 0] := by decide +kernel
theorem idx_3 : ∀ t : Fin cfg1.N, win1_3.index t = ![t.val, 0, 0] := by decide +kernel
theorem point : ∀ t : Fin cfg1.N, (grid1.coords t 1).val = t.val := by decide +kernel

/-- The expert whose turn point `t` is. -/
def turn (t : Fin cfg1.N) : Fin 8 := ⟨t.val, t.isLt.trans_eq (show cfg1.N = 8 from N_1)⟩

theorem part_0 (c : Dev nD) (t : Fin cfg1.N) (p : Fin 2048) (k : Fin 768) : part V c 0 t (ix2 p k) = V c main_v0 (ix2 p k) := by
  unfold part
  blk_ext [idx_0]
theorem part_1 (c : Dev nD) (t : Fin cfg1.N) (p : Fin 2048) (l : Fin 128) : part V c 1 t (ix2 p l) = V c main_v39 (ix2 p l) := by
  unfold part
  blk_ext [idx_1]
theorem part_2 (c : Dev nD) (t : Fin cfg1.N) (h : Fin 1536) (k : Fin 768) : part V c 2 t (ix3 0 h k) = V c main_arg5 (ix3 (turn t) h k) := by
  unfold part turn
  blk_ext [idx_2]
theorem part_3 (c : Dev nD) (t : Fin cfg1.N) (j : Fin 768) (h : Fin 1536) : part V c 3 t (ix3 0 j h) = V c main_arg6 (ix3 (turn t) j h) := by
  unfold part turn
  blk_ext [idx_3]

section body
variable (x : Vec Ideal S2048x768 .f32) (g : Vec Ideal S2048x128 .f32) (wf : Vec Ideal S1x1536x768 .f32) (wp : Vec Ideal S1x768x1536 .f32)
  (o : Vec Ideal S2048x768 .f32) (i : grid1.Coords) (p : Fin 2048) (j : Fin 768)

/-- One block of weights applied to a token. -/
def applied : EReal :=
  ∑ h, max (∑ k, x (ix2 p k) * wf (ix3 0 h k)) 0 * max (∑ k, x (ix2 p k) * wf (ix3 0 h k)) 0 * wp (ix3 0 j h)

theorem begun_at : begun i x g wf wp (ix2 p j) = Pick.entry (fun l => g (ix2 p l)) (BitVec.ofNat 32 (i 1).val) * applied x wf wp p j := by
  unfold begun
  rw [View.canon_unit_zero (Val := Elt Ideal) (S := S2048x768) (e := .f32) (off := ![0, 0]) (by funext a; fin_cases a <;> rfl) inb_S2048x768_S2048x768_0_0]
  pointwise [k1_pay3, k1_pay2, k1_pay1]
  rfl

theorem grown_at : grown i x g wf wp o (ix2 p j)
    = o (ix2 p j) + Pick.entry (fun l => g (ix2 p l)) (BitVec.ofNat 32 (i 1).val) * applied x wf wp p j := by
  unfold grown
  rw [View.canon_unit_zero (Val := Elt Ideal) (S := S2048x768) (e := .f32) (off := ![0, 0]) (by funext a; fin_cases a <;> rfl) inb_S2048x768_S2048x768_0_0]
  pointwise [k1_pay4, k1_pay2, k1_pay1]
  rfl
end body

/-- A point's share, read off its blocks. -/
theorem share_at (c : Dev nD) (t : Fin cfg1.N) (p : Fin 2048) (j : Fin 768) :
    Pick.entry (fun l => part V c 1 t (ix2 p l)) (BitVec.ofNat 32 (grid1.coords t 1).val) * applied (part V c 0 t) (part V c 2 t) (part V c 3 t) p j
      = share (V c main_v0) (V c main_v39) (V c main_arg5) (V c main_arg6) p j t.val := by
  have ht : t.val < 8 := t.isLt.trans_eq (show cfg1.N = 8 from N_1)
  unfold share applied expert
  rw [dif_pos ht, point, show BitVec.ofNat 32 t.val = BitVec.ofNat 32 (Pick.early ⟨t.val, ht⟩).val from rfl, Pick.entry_lane]
  simp only [part_0, part_1, part_2, part_3]
  rfl

theorem sofar_at (c : Dev nD) (p : Fin 2048) (j : Fin 768) : ∀ (n : ℕ) (hn : n < cfg1.N),
    sofar V c n hn (ix2 p j) = ∑ k ∈ Finset.range (n + 1), share (V c main_v0) (V c main_v39) (V c main_arg5) (V c main_arg6) p j k
  | 0, hn => by
    rw [Finset.sum_range_one, sofar_first V c ⟨0, hn⟩ rfl, begun_at]
    exact share_at V c ⟨0, hn⟩ p j
  | n + 1, hn => by
    rw [Finset.sum_range_succ, sofar_later V c ⟨n + 1, hn⟩ (Nat.succ_ne_zero n), grown_at]
    exact congrArg₂ (· + ·) (sofar_at c p j n (Nat.lt_of_succ_lt hn)) (share_at V c ⟨n + 1, hn⟩ p j)

theorem last_lt : 7 < cfg1.N := by rw [show cfg1.N = 8 from N_1]; norm_num

/-- The result array after the call. -/
theorem result_arr (c : Dev nD) : (Mix.dat V c).arrAt 4 cfg1.N
    = (show Buf (Elt Ideal) ((c : Thread nD τ).loc main_v40) from result (V c main_v0) (V c main_v39) (V c main_arg5) (V c main_arg6)) := by
  refine (Mix.dat V c).arrAt_eq_of_covers 4 _ (by decide +kernel) fun t hf y => ?_
  rw [Mix.after_4]
  have ht : t.val = 7 := by
    have h := (flush1_4 _).mp hf
    have := t.isLt.trans_eq (show cfg1.N = 8 from N_1)
    omega
  have idx_4 : ∀ t : Fin cfg1.N, win1_4.index t = ![0, 0] := by decide +kernel
  idx_vars y
  have hx : ((win1 4).xinj (grid1.coords t) (ix2 y0 y1)) = (ix2 y0 y1 : S2048x768.Idx) := by blk_ext
  have he : (((View.whole main_v40).slice ((win1 4).rect t)).emb (ix2 y0 y1)) = (ix2 y0 y1 : S2048x768.Idx) := by
    blk_ext [idx_4]
  rw [hx, he, sofar_at, ht]
  refine (cast_eq _ _).trans ?_
  rfl

end Cert.KernelIdeal.Mixed
-- ==== Proof.Value.Angles.lean ====
/-
  The two sets of angles by which a row of scores is turned, and the sizes of their cosines and sines. An angle is a depth, counted from the front or
  from the back, times a frequency that falls with the column.
-/
module

public import proofs.«01_k».proof.Proof.Value.Row
public import proofs.«01_k».proof.Proof.Value.Consts

@[expose] public section

noncomputable section

namespace Cert.Angles

open Idealize.ShloMosaic

/-- The frequency of column `j`: one over ten thousand to the power of twice the column over the width. -/
def freq (j : Fin 384) : EReal :=
  Ideal.div 1 (Ideal.pow (Ideal.ofBits .f32 0x461C4000#32)
    (Ideal.div (Ideal.ofBits .f32 0x40000000#32 * FloatOps.sitofp (F := Ideal) .f32 (BitVec.ofNat 32 j.val)) (Ideal.ofBits .f32 0x44400000#32)))

/-- The depth counted from the front. -/
def front (d : BitVec 32) : EReal := FloatOps.sitofp (F := Ideal) .f32 d

/-- The depth counted from the back. -/
def back (d : BitVec 32) : EReal := Ideal.ofBits .f32 0x41F80000#32 - front d

/-- A depth read as a number is a real. -/
theorem word_real (w : BitVec 32) : (FloatOps.sitofp (F := Ideal) .f32 w : EReal) = ((w.toInt : ℝ) : EReal) := rfl

/-- Every frequency is a real. -/
theorem freq_real (j : Fin 384) : ∃ r : ℝ, freq j = r := by
  unfold freq
  rw [Consts.base, Consts.two, Consts.width, word_real, Ideal.div_coe (by norm_num), ← EReal.coe_mul, ← EReal.coe_mul, Ideal.pow_coe_coe,
    Ideal.div_coe (show Real.rpow 10000 _ ≠ 0 from (Real.rpow_pos_of_pos (by norm_num) _).ne'), one_mul]
  exact ⟨_, rfl⟩

theorem front_real (d : BitVec 32) : ∃ r : ℝ, front d = r := ⟨_, word_real d⟩

theorem back_real (d : BitVec 32) : ∃ r : ℝ, back d = r := by
  unfold back front
  rw [Consts.last, word_real, ← EReal.coe_sub]
  exact ⟨_, rfl⟩

/-- Counting from the back on words agrees with counting on numbers, as long as the depth is not so negative that the words wrap. -/
theorem back_word (d : BitVec 32) (h : -(2147483616 : Int) ≤ d.toInt) : FloatOps.sitofp (F := Ideal) .f32 (31#32 - d) = back d := by
  unfold back front
  rw [Consts.last, word_real, word_real, ← EReal.coe_sub]
  have hw : (31#32 - d).toInt = 31 - d.toInt := by
    rw [BitVec.toInt_sub]
    have h1 : d.toInt < 2147483648 := BitVec.toInt_lt (w := 32)
    rw [show (31#32 : BitVec 32).toInt = 31 from rfl]
    rw [Int.bmod_def]
    omega
  rw [hw]
  push_cast
  rfl

/-- The cosine and the sine of an angle lie within one. -/
theorem cos_within {d : EReal} (hd : ∃ r : ℝ, d = r) (j : Fin 384) : Row.Within 1 (Ideal.cos (d * freq j)) := by
  obtain ⟨a, rfl⟩ := hd
  obtain ⟨b, hb⟩ := freq_real j
  rw [hb, ← EReal.coe_mul]
  exact Row.Within.cos _

theorem sin_within {d : EReal} (hd : ∃ r : ℝ, d = r) (j : Fin 384) : Row.Within 1 (Ideal.sin (d * freq j)) := by
  obtain ⟨a, rfl⟩ := hd
  obtain ⟨b, hb⟩ := freq_real j
  rw [hb, ← EReal.coe_mul]
  exact Row.Within.sin _

end Cert.Angles

end

end
-- ==== Proof.Value.Prepared.lean ====
/-
  What the launch's opening host operations leave in the arrays that the first region reads: the activations without their leading unit axis, the
  padded keys and bias, and the table whose first four rows are the cosines and sines of the two sets of angles.
-/
module

public import proofs.«01_k».proof.Proof.Gen.KernelIdeal.Launch
public import proofs.«01_k».proof.Proof.Value.Pick
public import proofs.«01_k».proof.Proof.Value.Angles
public import Idealize.ShloMosaic.Lib.Pointwise
public import Idealize.ShloMosaic.Lib.Routing.OpsPair
public import Idealize.ShloMosaic.Lib.Routing.OpsSet
@[expose] public section
set_option maxRecDepth 16384
noncomputable section

namespace Cert.KernelIdeal.Prepared

open Cert.KernelIdeal Cert.KernelIdeal.Gen
open Idealize.ShloMosaic Idealize.ShloMosaic.TcCoe Idealize.ShloMosaic.StableHlo Idealize.ShloMosaic.Routing

/-- Where the window of a scatter by one index word starts, when that word is `w`. -/
theorem start_word {s u : Shape} (d : ScatterDims s S1 u) (idx : IVec S1 32) (w : BitVec 32) (h : ∀ b, idx b = w) (k : u.Idx) (a : Fin s.rank) :
    d.start k idx a = if a ∈ d.scatterDimsToOperandDims then w.toInt else 0 := by
  unfold ScatterDims.start
  by_cases ha : a ∈ d.scatterDimsToOperandDims
  · rw [dif_pos ha, if_pos ha, h]
  · rw [dif_neg ha, if_neg ha]

/-- Writing a row of the table: the row named by the index word takes the new values, the others stay. -/
theorem table_row (x : Vec Ideal S8x384 .f32) (idx : IVec S1 32) (u : Vec Ideal S384 .f32) (n : Fin 8) (h : ∀ b, idx b = BitVec.ofNat 32 n.val)
    (r : Fin 8) (i : Fin 384) :
    Host.scatter scatter_S8x384_S1_S384_0_0_0_0 (fun _ b => b) x idx u (ix2 r i) = if r = n then u (ix1 i) else x (ix2 r i) := by
  have hn : (BitVec.ofNat 32 n.val).toInt = (n.val : Int) := by fin_cases n <;> rfl
  have lands : ∀ k : Fin 384, scatter_S8x384_S1_S384_0_0_0_0.resultIdx? (ix1 k) idx = some (ix2 r i) ↔ n = r ∧ k = i := by
    intro k
    have s0 : scatter_S8x384_S1_S384_0_0_0_0.start (ix1 k) idx 0 = n.val := by rw [start_word _ idx _ h, hn]; rfl
    have s1 : scatter_S8x384_S1_S384_0_0_0_0.start (ix1 k) idx 1 = 0 := by rw [start_word _ idx _ h, hn]; rfl
    have w0 : scatter_S8x384_S1_S384_0_0_0_0.window (ix1 k) 0 = 0 := rfl
    have w1 : scatter_S8x384_S1_S384_0_0_0_0.window (ix1 k) 1 = k.val := rfl
    rw [resultIdx?_eq_some]
    constructor
    · intro q
      have q0 := q 0
      have q1 := q 1
      rw [s0, w0] at q0
      rw [s1, w1] at q1
      simp only [ix2] at q0 q1
      constructor <;> apply Fin.ext
      · simpa using q0
      · simpa using q1
    · rintro ⟨rfl, rfl⟩ a
      fin_cases a
      · show scatter_S8x384_S1_S384_0_0_0_0.start (ix1 k) idx 0 + (scatter_S8x384_S1_S384_0_0_0_0.window (ix1 k) 0 : Int) = (n.val : Int)
        rw [s0, w0]; simp
      · show scatter_S8x384_S1_S384_0_0_0_0.start (ix1 k) idx 1 + (scatter_S8x384_S1_S384_0_0_0_0.window (ix1 k) 1 : Int) = (k.val : Int)
        rw [s1, w1]; simp
  by_cases hr : r = n
  · rw [if_pos hr]
    refine scatter_set_hit _ _ _ _ _ _ (fun k hk => ?_) (ix1 i) ((lands i).2 ⟨hr.symm, rfl⟩)
    idx_vars k
    rw [((lands _).1 hk).2]
  · rw [if_neg hr]
    refine scatter_set_miss _ _ _ _ _ (fun k hk => ?_)
    idx_vars k
    exact hr ((lands _).1 hk).1.symm

/-- The same when the index word is a constant. -/
theorem table_set (x : Vec Ideal S8x384 .f32) (w : BitVec 32) (u : Vec Ideal S384 .f32) (n : Fin 8) (h : w = BitVec.ofNat 32 n.val) (r : Fin 8) (i : Fin 384) :
    Host.scatter scatter_S8x384_S1_S384_0_0_0_0 (fun _ b => b) x (broadcastInDim S1 ![] bcast_S_S1 (constantI S_ 32 w)) u (ix2 r i)
      = if r = n then u (ix1 i) else x (ix2 r i) := table_row x _ u n (fun _ => h) r i

/-- Writing the eight keys at the top of the padded array. -/
theorem keys_write (x : Vec Ideal S128x768 .f32) (idx : IVec S1 32) (u : Vec Ideal S8x768 .f32) (h : ∀ b, idx b = 0#32) (r : Fin 128) (i : Fin 768) :
    Host.scatter scatter_S128x768_S1_S8x768_01_n_0_0 (fun _ b => b) x idx u (ix2 r i) = if h : r.val < 8 then u (ix2 ⟨r.val, h⟩ i) else x (ix2 r i) := by
  have lands : ∀ (k : Fin 8) (j : Fin 768), scatter_S128x768_S1_S8x768_01_n_0_0.resultIdx? (ix2 k j) idx = some (ix2 r i) ↔ k.val = r.val ∧ j = i := by
    intro k j
    have s0 : scatter_S128x768_S1_S8x768_01_n_0_0.start (ix2 k j) idx 0 = 0 := by rw [start_word _ idx _ h]; rfl
    have s1 : scatter_S128x768_S1_S8x768_01_n_0_0.start (ix2 k j) idx 1 = 0 := by rw [start_word _ idx _ h]; rfl
    have w0 : scatter_S128x768_S1_S8x768_01_n_0_0.window (ix2 k j) 0 = k.val := rfl
    have w1 : scatter_S128x768_S1_S8x768_01_n_0_0.window (ix2 k j) 1 = j.val := rfl
    rw [resultIdx?_eq_some]
    constructor
    · intro q
      have q0 := q 0
      have q1 := q 1
      rw [s0, w0] at q0
      rw [s1, w1] at q1
      simp only [ix2] at q0 q1
      constructor
      · simpa using q0
      · apply Fin.ext; simpa using q1
    · rintro ⟨e, rfl⟩ a
      fin_cases a
      · show scatter_S128x768_S1_S8x768_01_n_0_0.start (ix2 k j) idx 0 + (scatter_S128x768_S1_S8x768_01_n_0_0.window (ix2 k j) 0 : Int) = (r.val : Int)
        rw [s0, w0, e]; simp
      · show scatter_S128x768_S1_S8x768_01_n_0_0.start (ix2 k j) idx 1 + (scatter_S128x768_S1_S8x768_01_n_0_0.window (ix2 k j) 1 : Int) = (j.val : Int)
        rw [s1, w1]; simp
  by_cases hr : r.val < 8
  · rw [dif_pos hr]
    refine scatter_set_hit _ _ _ _ _ _ (fun k hk => ?_) (ix2 ⟨r.val, hr⟩ i) ((lands _ _).2 ⟨rfl, rfl⟩)
    idx_vars k
    obtain ⟨e0, e1⟩ := (lands _ _).1 hk
    rw [e1]
    exact congrArg (fun q => u (ix2 q i)) (Fin.ext e0)
  · rw [dif_neg hr]
    refine scatter_set_miss _ _ _ _ _ (fun k hk => ?_)
    idx_vars k
    have e := ((lands _ _).1 hk).1
    omega

/-- Writing the eight biases at the front of the padded array. -/
theorem bias_write (x : Vec Ideal S128 .f32) (idx : IVec S1 32) (u : Vec Ideal S8 .f32) (h : ∀ b, idx b = 0#32) (r : Fin 128) :
    Host.scatter scatter_S128_S1_S8_0_n_0_0 (fun _ b => b) x idx u (ix1 r) = if h : r.val < 8 then u (ix1 ⟨r.val, h⟩) else x (ix1 r) := by
  have lands : ∀ (k : Fin 8), scatter_S128_S1_S8_0_n_0_0.resultIdx? (ix1 k) idx = some (ix1 r) ↔ k.val = r.val := by
    intro k
    have s0 : scatter_S128_S1_S8_0_n_0_0.start (ix1 k) idx 0 = 0 := by rw [start_word _ idx _ h]; rfl
    have w0 : scatter_S128_S1_S8_0_n_0_0.window (ix1 k) 0 = k.val := rfl
    rw [resultIdx?_eq_some]
    constructor
    · intro q
      have q0 := q 0
      rw [s0, w0] at q0
      simp only [ix1] at q0
      simpa using q0
    · rintro e a
      fin_cases a
      show scatter_S128_S1_S8_0_n_0_0.start (ix1 k) idx 0 + (scatter_S128_S1_S8_0_n_0_0.window (ix1 k) 0 : Int) = (r.val : Int)
      rw [s0, w0, e]; simp
  by_cases hr : r.val < 8
  · rw [dif_pos hr]
    refine scatter_set_hit _ _ _ _ _ _ (fun k hk => ?_) (ix1 ⟨r.val, hr⟩) ((lands _).2 rfl)
    idx_vars k
    exact congrArg (fun q => u (ix1 q)) (Fin.ext ((lands _).1 hk))
  · rw [dif_neg hr]
    refine scatter_set_miss _ _ _ _ _ (fun k hk => ?_)
    idx_vars k
    have e := (lands _).1 hk
    omega

variable (V : Valuation τ sig (Elt Ideal))

/-- The padded keys: the eight keys, then zeros. -/
theorem keys_at (l : Fin 128) (j : Fin 768) :
    (show Vec Ideal S128x768 .f32 from after hostOps0 V (Proc.devRef .tc main_v33)) (ix2 l j)
      = if h : l.val < 8 then (show Vec Ideal S8x768 .f32 from V (Proc.devRef .tc main_arg3)) (ix2 ⟨l.val, h⟩ j) else 0 := by
  simp only [hostOps0]
  after_results_simp
  rw [keys_write]
  · pointwise
  · exact fun _ => rfl

/-- The padded bias, the same in all eight rows: the eight biases, then the padding value. -/
theorem bias_at (r : Fin 8) (l : Fin 128) :
    (show Vec Ideal S8x128 .f32 from after hostOps0 V (Proc.devRef .tc main_v38)) (ix2 r l)
      = if h : l.val < 8 then (show Vec Ideal S8 .f32 from V (Proc.devRef .tc main_arg4)) (ix1 ⟨l.val, h⟩) else Ideal.ofBits .f32 0xF149F2CA#32 := by
  simp only [hostOps0]
  after_results_simp
  pointwise
  rw [bias_write]
  · pointwise
  · exact fun _ => rfl

/-- The activations without their leading unit axis. -/
theorem tokens_at (t : Fin 2048) (k : Fin 768) :
    (show Vec Ideal S2048x768 .f32 from after hostOps0 V (Proc.devRef .tc main_v0)) (ix2 t k)
      = (show Vec Ideal S1x2048x768 .f32 from V (Proc.devRef .tc main_arg0)) (ix3 0 t k) := by
  simp only [hostOps0]
  after_results_simp
  pointwise

/-- The depth that the launch is given. -/
abbrev depth : BitVec 32 := (show IVec S_ 32 from V (Proc.devRef .tc main_arg1)) ix0

theorem table_0 (i : Fin 384) : (show Vec Ideal S8x384 .f32 from after hostOps0 V (Proc.devRef .tc main_v30)) (ix2 0 i)
    = Ideal.cos (Angles.front (depth V) * Angles.freq i) := by
  simp only [hostOps0]
  after_results_simp
  rw [table_set _ 3#32 _ 3 rfl, if_neg (by decide), table_set _ 2#32 _ 2 rfl, if_neg (by decide),
    table_set _ 1#32 _ 1 rfl, if_neg (by decide), table_set _ 0#32 _ 0 rfl, if_pos rfl]
  pointwise [Angles.front, Angles.freq, depth]

theorem table_1 (i : Fin 384) : (show Vec Ideal S8x384 .f32 from after hostOps0 V (Proc.devRef .tc main_v30)) (ix2 1 i)
    = Ideal.sin (Angles.front (depth V) * Angles.freq i) := by
  simp only [hostOps0]
  after_results_simp
  rw [table_set _ 3#32 _ 3 rfl, if_neg (by decide), table_set _ 2#32 _ 2 rfl, if_neg (by decide),
    table_set _ 1#32 _ 1 rfl, if_pos rfl]
  pointwise [Angles.front, Angles.freq, depth]

theorem table_2 (i : Fin 384) : (show Vec Ideal S8x384 .f32 from after hostOps0 V (Proc.devRef .tc main_v30)) (ix2 2 i)
    = Ideal.cos (Angles.back (depth V) * Angles.freq i) := by
  simp only [hostOps0]
  after_results_simp
  rw [table_set _ 3#32 _ 3 rfl, if_neg (by decide), table_set _ 2#32 _ 2 rfl, if_pos rfl]
  pointwise [Angles.front, Angles.back, Angles.freq, depth]

theorem table_3 (i : Fin 384) : (show Vec Ideal S8x384 .f32 from after hostOps0 V (Proc.devRef .tc main_v30)) (ix2 3 i)
    = Ideal.sin (Angles.back (depth V) * Angles.freq i) := by
  simp only [hostOps0]
  after_results_simp
  rw [table_set _ 3#32 _ 3 rfl, if_pos rfl]
  pointwise [Angles.front, Angles.back, Angles.freq, depth]

end Cert.KernelIdeal.Prepared

end

end
-- ==== Proof.Value.Spec.lean ====
/-
  The layer's value, position by position, from its seven arguments: the common form in which the kernel's result and the reference's result are read.
-/
module

public import proofs.«01_k».proof.Proof.Value.Pick
public import proofs.«01_k».proof.Proof.Value.Angles

@[expose] public section

noncomputable section

namespace Cert.Spec

open Idealize.ShloMosaic

variable (x : Fin 2048 → Fin 768 → EReal) (d : BitVec 32) (wr : Fin 768 → Fin 768 → EReal) (ek : Fin 8 → Fin 768 → EReal) (bi : Fin 8 → EReal)
  (wf : Fin 8 → Fin 1536 → Fin 768 → EReal) (wp : Fin 8 → Fin 768 → Fin 1536 → EReal)

/-- Token `t`'s query, scaled and turned. -/
def turned (t : Fin 2048) : Fin 768 → EReal :=
  Row.turn (Row.scaled fun j => ∑ k, x t k * wr j k) (fun i => Ideal.cos (Angles.front d * Angles.freq i)) (fun i => Ideal.sin (Angles.front d * Angles.freq i))
    (fun i => Ideal.cos (Angles.back d * Angles.freq i)) fun i => Ideal.sin (Angles.back d * Angles.freq i)

/-- Token `t`'s score at expert `e`. -/
def score (t : Fin 2048) (e : Fin 8) : EReal := Row.score (turned x d wr t) (ek e)

/-- The score that decides the choice. -/
def biased (t : Fin 2048) (e : Fin 8) : EReal := score x d wr ek t e + bi e

/-- The experts in the order of their scores: `ranked t i` comes in place `i`. -/
def ranked (t : Fin 2048) (i : Fin 8) : Fin 8 := sortedFrom (fun a b => decide (biased x d wr ek bi t b < biased x d wr ek bi t a)) i

/-- Token `t`'s gate for expert `e`. -/
def gate (t : Fin 2048) (e : Fin 8) : EReal :=
  Pick.gate (fun e => Ideal.logistic (score x d wr ek t e)) (Ideal.ofBits .f32 0x3089705F#32) (ranked x d wr ek bi t 0) (ranked x d wr ek bi t 1) e

/-- Expert `e`'s output for token `t` at column `j`. -/
def expert (e : Fin 8) (t : Fin 2048) (j : Fin 768) : EReal :=
  ∑ h, max (∑ k, x t k * wf e h k) 0 * max (∑ k, x t k * wf e h k) 0 * wp e j h

/-- The layer's value. -/
def layer (t : Fin 2048) (j : Fin 768) : EReal := ∑ e, gate x d wr ek bi t e * expert x wf wp e t j

theorem score_within (hk : ∀ e j, Row.Within (2 ^ 86) (ek e j)) (t : Fin 2048) (e : Fin 8) : Row.Within (2 ^ 97) (score x d wr ek t e) :=
  Row.score_within (Row.turn_within (Row.scaled_within _) (Angles.cos_within (Angles.front_real d)) (Angles.sin_within (Angles.front_real d))
    (Angles.cos_within (Angles.back_real d)) (Angles.sin_within (Angles.back_real d))) (hk e)

end Cert.Spec

end

end
-- ==== Proof.Value.KernelRead.lean ====
/-
  The kernel's result array at the end of its run is the layer's value, when the keys and biases are bounded as the precondition says: the padded lanes
  then score below every real lane, so that the choice among 128 lanes is the choice among the eight experts.
-/
module

public import proofs.«01_k».proof.Proof.KernelIdeal.Launched
public import proofs.«01_k».proof.Proof.Value.Mixed
public import proofs.«01_k».proof.Proof.Value.Prepared
public import proofs.«01_k».proof.Proof.Value.Spec

@[expose] public section

set_option maxRecDepth 16384

noncomputable section

namespace Cert.KernelIdeal.Read

open Cert.KernelIdeal Cert.KernelIdeal.Gen Cert.KernelIdeal.Launched
open Idealize.ShloMosaic Idealize.ShloMosaic.TcCoe Idealize.ShloMosaic.Tactic

variable (m : (ℓ : Loc nD τ sig) → Buf (Elt Ideal) ℓ) (c : Dev nD)

/-- The arguments of the launch. -/
abbrev arg0 : Vec Ideal S1x2048x768 .f32 := m ((c : Thread nD τ).loc main_arg0)
abbrev arg1 : IVec S_ 32 := m ((c : Thread nD τ).loc main_arg1)
abbrev arg2 : Vec Ideal S768x768 .f32 := m ((c : Thread nD τ).loc main_arg2)
abbrev arg3 : Vec Ideal S8x768 .f32 := m ((c : Thread nD τ).loc main_arg3)
abbrev arg4 : Vec Ideal S8 .f32 := m ((c : Thread nD τ).loc main_arg4)
abbrev arg5 : Vec Ideal S8x1536x768 .f32 := m ((c : Thread nD τ).loc main_arg5)
abbrev arg6 : Vec Ideal S8x768x1536 .f32 := m ((c : Thread nD τ).loc main_arg6)

/-- The layer's value of the launch's arguments. -/
abbrev value (t : Fin 2048) (j : Fin 768) : EReal :=
  Spec.layer (fun t k => arg0 m c (ix3 0 t k)) (arg1 m c ix0) (fun j k => arg2 m c (ix2 j k)) (fun e j => arg3 m c (ix2 e j)) (fun e => arg4 m c (ix1 e))
    (fun e h k => arg5 m c (ix3 e h k)) (fun e j h => arg6 m c (ix3 e j h)) t j

section gates
variable (x : Vec Ideal S2048x768 .f32) (wr : Vec Ideal S768x768 .f32) (ek : Vec Ideal S128x768 .f32) (bi : Vec Ideal S8x128 .f32) (tr : Vec Ideal S8x384 .f32)
  (ax : Fin 2048 → Fin 768 → EReal) (d : BitVec 32) (awr : Fin 768 → Fin 768 → EReal) (aek : Fin 8 → Fin 768 → EReal) (abi : Fin 8 → EReal)
  (hx : ∀ t k, x (ix2 t k) = ax t k) (hwr : ∀ j k, wr (ix2 j k) = awr j k)
  (hek : ∀ (l : Fin 128) j, ek (ix2 l j) = if h : l.val < 8 then aek ⟨l.val, h⟩ j else 0)
  (hbi : ∀ (l : Fin 128), bi (ix2 0 l) = if h : l.val < 8 then abi ⟨l.val, h⟩ else Ideal.ofBits .f32 0xF149F2CA#32)
  (h0 : ∀ i, tr (ix2 0 i) = Ideal.cos (Angles.front d * Angles.freq i)) (h1 : ∀ i, tr (ix2 1 i) = Ideal.sin (Angles.front d * Angles.freq i))
  (h2 : ∀ i, tr (ix2 2 i) = Ideal.cos (Angles.back d * Angles.freq i)) (h3 : ∀ i, tr (ix2 3 i) = Ideal.sin (Angles.back d * Angles.freq i))
  (hk : ∀ e j, Row.Within (2 ^ 86) (aek e j)) (hb : ∀ e, ((-(2 ^ 99) : ℝ) : EReal) ≤ abi e)
include hx hwr hek h0 h1 h2 h3

/-- A lane's score: an expert's on the first eight, zero past them. -/
theorem score_early (t : Fin 2048) (e : Fin 8) : Filled.score x wr ek tr t (Pick.early e) = Spec.score ax d awr aek t e := by
  unfold Filled.score Spec.score Spec.turned
  simp only [hx, hwr, h0, h1, h2, h3]
  refine congrArg (Row.score _) (funext fun j => ?_)
  rw [hek, dif_pos (show (Pick.early e).val < 8 from e.isLt)]
  rfl

theorem score_late (t : Fin 2048) (l : Fin 128) (hl : 8 ≤ l.val) : Filled.score x wr ek tr t l = 0 := by
  unfold Filled.score Row.score
  simp only [hek, dif_neg (not_lt.mpr hl), mul_zero, Finset.sum_const_zero, zero_mul]

include hbi hk hb
theorem gates_early (t : Fin 2048) (e : Fin 8) : Filled.gates x wr ek bi tr (ix2 t (Pick.early e)) = Spec.gate ax d awr aek abi t e := by
  have hlt (e : Fin 8) : Ideal.ofBits .f32 0xF149F2CA#32 < Spec.biased ax d awr aek abi t e := Row.padded_lt (Spec.score_within ax d awr aek hk t e) (hb e)
  refine Pick.written_early (v := fun l => Filled.score x wr ek tr t l + bi (ix2 0 l)) (g := fun l => Ideal.logistic (Filled.score x wr ek tr t l))
    (u := Spec.biased ax d awr aek abi t) (k := fun e => Ideal.logistic (Spec.score ax d awr aek t e)) _ (fun e => ?_) (fun e => ?_) (fun l hl e => ?_)
    (fun e => lt_of_le_of_lt bot_le (hlt e)) (Order.leads_first _ 0 rfl) (Order.leads_second _ 0 1 rfl rfl) e
  · show Filled.score x wr ek tr t (Pick.early e) + bi (ix2 0 (Pick.early e)) = _
    rw [score_early x wr ek tr ax d awr aek hx hwr hek h0 h1 h2 h3, hbi, dif_pos (show (Pick.early e).val < 8 from e.isLt)]
    rfl
  · show Ideal.logistic (Filled.score x wr ek tr t (Pick.early e)) = _
    rw [score_early x wr ek tr ax d awr aek hx hwr hek h0 h1 h2 h3]
  · show Filled.score x wr ek tr t l + bi (ix2 0 l) < _
    rw [score_late x wr ek tr ax d awr aek hx hwr hek h0 h1 h2 h3 t l hl, hbi, dif_neg (not_lt.mpr hl), zero_add]
    exact hlt e

end gates

/-- The gates array between the two calls. -/
theorem routed_gates (hk : ∀ e j, Row.Within (2 ^ 86) (arg3 m c (ix2 e j))) (hb : ∀ e, ((-(2 ^ 99) : ℝ) : EReal) ≤ arg4 m c (ix1 e))
    (t : Fin 2048) (e : Fin 8) :
    (show Vec Ideal S2048x128 .f32 from routed m c (Proc.devRef .tc main_v39)) (ix2 t (Pick.early e))
      = Spec.gate (fun t k => arg0 m c (ix3 0 t k)) (arg1 m c ix0) (fun j k => arg2 m c (ix2 j k)) (fun e j => arg3 m c (ix2 e j)) (fun e => arg4 m c (ix1 e)) t e := by
  have e1 := (routed_arr m c 5).trans (Filled.gates_arr (preparedAt m) c)
  refine (congrFun e1 (ix2 t (Pick.early e))).trans ?_
  exact gates_early _ _ _ _ _ _ _ _ _ _ (fun t k => Prepared.tokens_at (atStart m c) t k)
    (fun j k => congrFun (prepared_of m c main_arg2 (args_off_host _ (by decide))) (ix2 j k))
    (fun l j => Prepared.keys_at (atStart m c) l j) (fun l => Prepared.bias_at (atStart m c) 0 l)
    (fun i => Prepared.table_0 (atStart m c) i) (fun i => Prepared.table_1 (atStart m c) i) (fun i => Prepared.table_2 (atStart m c) i)
    (fun i => Prepared.table_3 (atStart m c) i) hk hb t e

/-- The result array at the end. -/
theorem mixed_value (hk : ∀ e j, Row.Within (2 ^ 86) (arg3 m c (ix2 e j))) (hb : ∀ e, ((-(2 ^ 99) : ℝ) : EReal) ≤ arg4 m c (ix1 e))
    (t : Fin 2048) (j : Fin 768) :
    (show Vec Ideal S2048x768 .f32 from mixed m c (Proc.devRef .tc main_v40)) (ix2 t j) = value m c t j := by
  have e1 := (mixed_arr m c 4).trans (Mixed.result_arr (routedAt m) c)
  refine (congrFun e1 (ix2 t j)).trans ?_
  have hx (t : Fin 2048) (k : Fin 768) : (show Vec Ideal S2048x768 .f32 from routedAt m c main_v0) (ix2 t k) = arg0 m c (ix3 0 t k) :=
    (congrFun (routed_of m c main_v0 (by decide +kernel)) (ix2 t k)).trans (Prepared.tokens_at (atStart m c) t k)
  have h5 : routedAt m c main_arg5 = arg5 m c := routed_arg m c main_arg5 (by decide)
  have h6 : routedAt m c main_arg6 = arg6 m c := routed_arg m c main_arg6 (by decide)
  show ∑ n ∈ Finset.range 8, Mixed.share (routedAt m c main_v0) (routedAt m c main_v39) (routedAt m c main_arg5) (routedAt m c main_arg6) t j n = _
  rw [Finset.sum_range]
  refine Finset.sum_congr rfl fun e _ => ?_
  unfold Mixed.share
  rw [dif_pos e.isLt]
  refine congrArg₂ (· * ·) (routed_gates m c hk hb t e) ?_
  unfold Mixed.expert Spec.expert
  rw [h5, h6]
  simp only [hx]

end Cert.KernelIdeal.Read

end

end
-- ==== Proof.Value.RefScores.lean ====
/-
  The reference's scores, before and after the bias, position by position.
-/
module

public import proofs.«01_k».proof.Proof.Gen.ReferenceIdeal.Run
public import proofs.«01_k».proof.Proof.Value.Spec
public import Idealize.ShloMosaic.Lib.Pointwise

@[expose] public section

set_option maxRecDepth 16384

noncomputable section

namespace Cert.ReferenceIdeal.Scores

open Cert.ReferenceIdeal Cert.ReferenceIdeal.Gen Cert.ReferenceIdeal.Value
open Idealize.ShloMosaic Idealize.ShloMosaic.TcCoe Idealize.ShloMosaic.StableHlo

variable (V : Valuation τ sig (Elt Ideal))

/-- The arguments. -/
abbrev arg0 : Vec Ideal S1x2048x768 .f32 := V (Proc.devRef .tc main_arg0)
abbrev arg1 : IVec S_ 32 := V (Proc.devRef .tc main_arg1)
abbrev arg2 : Vec Ideal S768x768 .f32 := V (Proc.devRef .tc main_arg2)
abbrev arg3 : Vec Ideal S8x768 .f32 := V (Proc.devRef .tc main_arg3)
abbrev arg4 : Vec Ideal S8 .f32 := V (Proc.devRef .tc main_arg4)
abbrev arg5 : Vec Ideal S8x1536x768 .f32 := V (Proc.devRef .tc main_arg5)
abbrev arg6 : Vec Ideal S8x768x1536 .f32 := V (Proc.devRef .tc main_arg6)

theorem freq_at (i : Fin 384) : (show Vec Ideal S384 .f32 from res_main_v23 V) (ix1 i) = Angles.freq i := by
  pointwise [res_main_v23, Angles.freq]

theorem scaled_at (t : Fin 2048) (j : Fin 768) :
    (show Vec Ideal S2048x768 .f32 from res_main_v12 V) (ix2 t j) = Row.scaled (fun j => ∑ k, arg0 V (ix3 0 t k) * arg2 V (ix2 j k)) j := by
  pointwise [res_main_v12, res_main_v2, res_main_v0]
  rfl

theorem front_at (i : Fin 384) : (show Vec Ideal S384 .f32 from res_main_v26 V) (ix1 i) = Angles.front (arg1 V ix0) * Angles.freq i := by
  rw [← freq_at V]
  pointwise [res_main_v26]
  rfl

/-- Counting the depth from the back on words, as the reference does, is counting on numbers. -/
theorem back_at (hd : -(2147483616 : Int) ≤ (arg1 V ix0).toInt) (i : Fin 384) :
    (show Vec Ideal S384 .f32 from res_main_v30 V) (ix1 i) = Angles.back (arg1 V ix0) * Angles.freq i := by
  rw [← freq_at V, ← Angles.back_word _ hd]
  pointwise [res_main_v30]
  rfl

/-- The layer's scores for the arguments. -/
abbrev score (t : Fin 2048) (e : Fin 8) : EReal :=
  Spec.score (fun t k => arg0 V (ix3 0 t k)) (arg1 V ix0) (fun j k => arg2 V (ix2 j k)) (fun e j => arg3 V (ix2 e j)) t e
abbrev biased (t : Fin 2048) (e : Fin 8) : EReal :=
  Spec.biased (fun t k => arg0 V (ix3 0 t k)) (arg1 V ix0) (fun j k => arg2 V (ix2 j k)) (fun e j => arg3 V (ix2 e j)) (fun e => arg4 V (ix1 e)) t e

theorem score_at (hd : -(2147483616 : Int) ≤ (arg1 V ix0).toInt) (t : Fin 2048) (e : Fin 8) :
    (show Vec Ideal S2048x8 .f32 from res_main_v57 V) (ix2 t e) = score V t e := by
  unfold score Spec.score
  rw [← Row.score_eq]
  have hs : ∀ f : Fin 768 → EReal, ∑ j, f j = ∑ i : Fin 384, f ⟨i.val, by omega⟩ + ∑ i : Fin 384, f ⟨384 + i.val, by omega⟩ := fun f =>
    Fin.sum_univ_add (a := 384) (b := 384) f
  rw [hs]
  pointwise [res_main_v57, res_main_v39, res_main_v40]
  refine congrArg (fun a => Ideal.div a _) (congrArg₂ (· + ·) (Finset.sum_congr rfl fun i _ => ?_) (Finset.sum_congr rfl fun i _ => ?_))
  · refine congrArg (· * arg3 V (ix2 e ⟨i.val, by omega⟩)) ?_
    unfold Spec.turned Row.turn
    rw [dif_pos (show (⟨i.val, by omega⟩ : Fin 768).val < 384 from i.isLt)]
    exact congrArg₂ (· + ·) (congrArg₂ (· * ·) (scaled_at V t _) (congrArg Ideal.cos (front_at V i)))
      (congrArg₂ (· * ·) (scaled_at V t _) (congrArg Ideal.sin (front_at V i)))
  · refine congrArg (· * arg3 V (ix2 e ⟨384 + i.val, by omega⟩)) ?_
    unfold Spec.turned Row.turn
    rw [dif_neg (show ¬ (⟨384 + i.val, by omega⟩ : Fin 768).val < 384 by simp)]
    have hi : (⟨384 + i.val - 384, by omega⟩ : Fin 384) = i := Fin.ext (by simp)
    have h0 : (⟨384 + i.val - 384, by omega⟩ : Fin 768) = ⟨i.val, by omega⟩ := Fin.ext (by simp)
    have h1 : (⟨384 + (384 + i.val - 384), by omega⟩ : Fin 768) = ⟨384 + i.val, by omega⟩ := Fin.ext (by simp)
    simp only [hi, h0, h1]
    exact congrArg₂ (· + ·) (congrArg₂ (· * ·) (scaled_at V t _) (congrArg (fun a => -Ideal.sin a) (back_at V hd i)))
      (congrArg₂ (· * ·) (scaled_at V t _) (congrArg Ideal.cos (back_at V hd i)))

theorem biased_at (hd : -(2147483616 : Int) ≤ (arg1 V ix0).toInt) (t : Fin 2048) (e : Fin 8) :
    (show Vec Ideal S2048x8 .f32 from res_main_v66 V) (ix2 t e) = biased V t e := by
  refine Eq.trans ?_ (congrArg (· + arg4 V (ix1 e)) (score_at V hd t e))
  pointwise [res_main_v66]

end Cert.ReferenceIdeal.Scores

end

end
-- ==== Proof.Value.RefChoice.lean ====
/-
  The two experts that the reference chooses for a token, and their gate values: the top two of the biased scores, read back from the gate values by index.
-/
module

public import proofs.«01_k».proof.Proof.Value.RefScores
public import Idealize.ShloMosaic.Lib.WordCmp
public import Idealize.ShloMosaic.Lib.ReduceAll
public import Idealize.ShloMosaic.Lib.SortFacts

@[expose] public section

set_option maxRecDepth 16384

noncomputable section

namespace Cert.ReferenceIdeal.Choice

open Cert.ReferenceIdeal Cert.ReferenceIdeal.Gen Cert.ReferenceIdeal.Value Cert.ReferenceIdeal.Scores
open Idealize.ShloMosaic Idealize.ShloMosaic.TcCoe Idealize.ShloMosaic.StableHlo

variable (V : Valuation τ sig (Elt Ideal))

/-- The expert in place `i` for token `t`. -/
abbrev chosen (t : Fin 2048) (i : Fin 2) : Fin 8 :=
  Spec.ranked (fun t k => arg0 V (ix3 0 t k)) (arg1 V ix0) (fun j k => arg2 V (ix2 j k)) (fun e j => arg3 V (ix2 e j)) (fun e => arg4 V (ix1 e)) t
    (Fin.castLE (by norm_num) i)

/-- The numbers that the stable descending sort of a row leaves in its places. -/
theorem index_at (hd : -(2147483616 : Int) ≤ (arg1 V ix0).toInt) (t : Fin 2048) (i : Fin 2) :
    (show IVec S2048x2 32 from res_main_indices V) (ix2 t i) = BitVec.ofNat 32 (chosen V t i).val := by
  have along (x k : Fin 8) : (ix2 t x : S2048x8.Idx).along 1 k = ix2 t k := by
    funext a
    fin_cases a <;> rfl
  have hb (x k : Fin 8) : (show Vec Ideal S2048x8 .f32 from res_main_v66 V) ((ix2 t x : S2048x8.Idx).along 1 k) = biased V t k := by
    rw [along]
    exact biased_at V hd t k
  pointwise [res_main_indices, Host.topK, Host.sort2]
  show BitVec.ofNat 32 (sortedFrom (fun k k' : Fin 8 =>
    FloatOps.cmpfTotal (F := Ideal) (φ := .f32) CmpDirection.gt
      ((show Vec Ideal S2048x8 .f32 from res_main_v66 V) ((ix2 t (Fin.castLE (by norm_num) i) : S2048x8.Idx).along 1 k))
      ((show Vec Ideal S2048x8 .f32 from res_main_v66 V) ((ix2 t (Fin.castLE (by norm_num) i) : S2048x8.Idx).along 1 k')) == 1#1)
    (Fin.castLE (by norm_num) i)).val = _
  refine congrArg (fun f => BitVec.ofNat 32 (sortedFrom f (Fin.castLE (by norm_num) i)).val) (funext fun k => funext fun k' => ?_)
  rw [hb, hb]
  show (BitVec.ofBool (decide (biased V t k' < biased V t k)) == 1#1) = decide (biased V t k' < biased V t k)
  cases decide (biased V t k' < biased V t k) <;> rfl

theorem small (n : Fin 8) : Scalar.select (IntOp.cmpi CmpIPredicate.slt (BitVec.ofNat 32 n.val) 0#32) (IntOp.addi (BitVec.ofNat 32 n.val) 8#32) (BitVec.ofNat 32 n.val)
    = BitVec.ofNat 32 n.val := by
  fin_cases n <;> rfl

theorem inside (n : Fin 8) : IntOp.andi (IntOp.cmpi CmpIPredicate.sge (BitVec.ofNat 32 n.val) 0#32) (IntOp.cmpi CmpIPredicate.sle (BitVec.ofNat 32 n.val) 7#32) = 1#1 := by
  fin_cases n <;> rfl

theorem read (n : Fin 8) : min (BitVec.ofNat 32 n.val).toInt.toNat (8 - 1) = n.val := by
  fin_cases n <;> rfl

/-- No chosen number is negative, so none is wrapped. -/
theorem place_at (hd : -(2147483616 : Int) ≤ (arg1 V ix0).toInt) (t : Fin 2048) (i : Fin 2) (z : Fin 1) :
    (show IVec S2048x2x1 32 from res_main_call0_v5 V) (ix3 t i z) = BitVec.ofNat 32 (chosen V t i).val := by
  have h : res_main_indices V (ix2 t i) = BitVec.ofNat 32 (chosen V t i).val := index_at V hd t i
  obtain rfl : z = 0 := Subsingleton.elim _ _
  pointwise [res_main_call0_v5]
  rw [h]
  exact small _

/-- Reading along each row by one number per place. -/
theorem along_row (x : Vec Ideal S2048x8 .f32) (idx : IVec S2048x2x1 32) (t : Fin 2048) (i : Fin 2) (n : Fin 8) (h : idx (ix3 t i 0) = BitVec.ofNat 32 n.val) :
    Host.gather gather_S2048x8_S2048x2x1_S2048x2_n_1_0_0_1_2_11 x idx (ix2 t i) = x (ix2 t n) := by
  unfold Host.gather
  refine congrArg x (funext fun a => ?_)
  fin_cases a
  · apply Fin.ext
    exact (show 0 + t.val + 0 = t.val by rw [zero_add, add_zero])
  · apply Fin.ext
    have hs : gather_S2048x8_S2048x2x1_S2048x2_n_1_0_0_1_2_11.start (ix2 t i) idx 1 = n.val := by
      unfold GatherDims.start
      rw [dif_pos (show (1 : Fin 2) ∈ gather_S2048x8_S2048x2x1_S2048x2_n_1_0_0_1_2_11.startIndexMap from List.mem_singleton.2 rfl)]
      have hsi : gather_S2048x8_S2048x2x1_S2048x2_n_1_0_0_1_2_11.siIdx (ix2 t i)
          ⟨gather_S2048x8_S2048x2x1_S2048x2_n_1_0_0_1_2_11.startIndexMap.idxOf 1, List.idxOf_lt_length_iff.2 (List.mem_singleton.2 rfl)⟩ = ix3 t i 0 := by
        funext b
        fin_cases b <;> rfl
      rw [hsi, h]
      exact read n
    exact hs

theorem value_at (hd : -(2147483616 : Int) ≤ (arg1 V ix0).toInt) (t : Fin 2048) (i : Fin 2) :
    (show Vec Ideal S2048x2 .f32 from res_main_v67 V) (ix2 t i) = Ideal.logistic (score V t (chosen V t i)) := by
  have hs : res_main_v57 V (ix2 t (chosen V t i)) = score V t (chosen V t i) := score_at V hd t (chosen V t i)
  unfold res_main_v67
  show Scalar.select (Host.reduce IntOp.andi _ _ reducesTo_S2048x2x1_S2048x2_d2 h_S_ (ix2 t i))
    (Host.gather gather_S2048x8_S2048x2x1_S2048x2_n_1_0_0_1_2_11 _ (res_main_call0_v5 V) (ix2 t i)) _ = _
  rw [Host.reduce_andi_one _ _ _ _ _ rfl (fun x => ?_), along_row _ _ t i (chosen V t i) (place_at V hd t i 0)]
  · pointwise
    rw [hs]
    rfl
  · idx_vars x
    have hp : res_main_call0_v5 V (ix3 x0 x1 x2) = BitVec.ofNat 32 (chosen V x0 x1).val := place_at V hd x0 x1 x2
    pointwise
    rw [hp]
    exact inside _

end Cert.ReferenceIdeal.Choice

end

end
-- ==== Proof.Value.RefRead.lean ====
/-
  The reference's result is the layer's value: the two gates of each token put in their experts' places, and the experts' outputs weighed by them.
-/
module

public import proofs.«01_k».proof.Proof.Value.RefChoice
public import Idealize.ShloMosaic.Lib.Routing.OpsPair
public import Idealize.ShloMosaic.Lib.Routing.OpsSet

@[expose] public section

set_option maxRecDepth 16384

noncomputable section

namespace Cert.ReferenceIdeal.Read

open Cert.ReferenceIdeal Cert.ReferenceIdeal.Gen Cert.ReferenceIdeal.Value Cert.ReferenceIdeal.Scores Cert.ReferenceIdeal.Choice
open Idealize.ShloMosaic Idealize.ShloMosaic.TcCoe Idealize.ShloMosaic.StableHlo Idealize.ShloMosaic.Routing

/-- Where an update lands, when its two index words are the numbers of a row and a column. -/
theorem lands (idx : IVec S2048x2x2 32) (t' : Fin 2048) (i : Fin 2) (n : Fin 8) (h0 : (idx (ix3 t' i 0)).toInt = t'.val)
    (h1 : (idx (ix3 t' i 1)).toInt = n.val) (t : Fin 2048) (e : Fin 8) :
    scatter_S2048x8_S2048x2x2_S2048x2_n_01_01_2.resultIdx? (ix2 t' i) idx = some (ix2 t e) ↔ t' = t ∧ n = e := by
  have hw (a : Fin 2) : scatter_S2048x8_S2048x2x2_S2048x2_n_01_01_2.window (ix2 t' i) a = 0 := by fin_cases a <;> rfl
  have hs0 : scatter_S2048x8_S2048x2x2_S2048x2_n_01_01_2.start (ix2 t' i) idx 0 = t'.val := by
    unfold ScatterDims.start
    rw [dif_pos (show (0 : Fin 2) ∈ scatter_S2048x8_S2048x2x2_S2048x2_n_01_01_2.scatterDimsToOperandDims by decide), ← h0]
    refine congrArg (fun b => (idx b).toInt) (funext fun b => ?_)
    fin_cases b <;> rfl
  have hs1 : scatter_S2048x8_S2048x2x2_S2048x2_n_01_01_2.start (ix2 t' i) idx 1 = n.val := by
    unfold ScatterDims.start
    rw [dif_pos (show (1 : Fin 2) ∈ scatter_S2048x8_S2048x2x2_S2048x2_n_01_01_2.scatterDimsToOperandDims by decide), ← h1]
    refine congrArg (fun b => (idx b).toInt) (funext fun b => ?_)
    fin_cases b <;> rfl
  rw [resultIdx?_eq_some]
  constructor
  · intro q
    have q0 := q 0
    have q1 := q 1
    rw [hs0, hw] at q0
    rw [hs1, hw] at q1
    simp only [ix2] at q0 q1
    constructor <;> apply Fin.ext
    · simpa using q0
    · simpa using q1
  · rintro ⟨rfl, rfl⟩ a
    fin_cases a
    · show scatter_S2048x8_S2048x2x2_S2048x2_n_01_01_2.start (ix2 t' i) idx 0 + (scatter_S2048x8_S2048x2x2_S2048x2_n_01_01_2.window (ix2 t' i) 0 : Int) = (t'.val : Int)
      rw [hs0, hw]; simp
    · show scatter_S2048x8_S2048x2x2_S2048x2_n_01_01_2.start (ix2 t' i) idx 1 + (scatter_S2048x8_S2048x2x2_S2048x2_n_01_01_2.window (ix2 t' i) 1 : Int) = (n.val : Int)
      rw [hs1, hw]; simp

/-- Putting two values of each row in the columns `c t 0` and `c t 1` of a row of zeros. -/
theorem put (x : Vec Ideal S2048x8 .f32) (idx : IVec S2048x2x2 32) (u : Vec Ideal S2048x2 .f32) (c : Fin 2048 → Fin 2 → Fin 8) (hx : ∀ t e, x (ix2 t e) = 0)
    (h0 : ∀ t i, (idx (ix3 t i 0)).toInt = t.val) (h1 : ∀ t i, (idx (ix3 t i 1)).toInt = (c t i).val) (hc : ∀ t, c t 1 ≠ c t 0) (t : Fin 2048) (e : Fin 8) :
    Host.scatter scatter_S2048x8_S2048x2x2_S2048x2_n_01_01_2 (fun _ b => b) x idx u (ix2 t e)
      = if e = c t 0 then u (ix2 t 0) else if e = c t 1 then u (ix2 t 1) else 0 := by
  have hl (t' : Fin 2048) (i : Fin 2) := lands idx t' i (c t' i) (h0 t' i) (h1 t' i) t e
  by_cases e0 : e = c t 0
  · rw [if_pos e0]
    refine scatter_set_hit _ _ _ _ _ _ (fun k hk => ?_) (ix2 t 0) ((hl t 0).2 ⟨rfl, e0.symm⟩)
    idx_vars k
    obtain ⟨rfl, hn⟩ := (hl _ _).1 hk
    match k1 with
    | 0 => rfl
    | 1 => exact absurd (hn.trans e0) (hc _)
  · rw [if_neg e0]
    by_cases e1 : e = c t 1
    · rw [if_pos e1]
      refine scatter_set_hit _ _ _ _ _ _ (fun k hk => ?_) (ix2 t 1) ((hl t 1).2 ⟨rfl, e1.symm⟩)
      idx_vars k
      obtain ⟨rfl, hn⟩ := (hl _ _).1 hk
      match k1 with
      | 0 => exact absurd hn.symm e0
      | 1 => rfl
    · rw [if_neg e1, ← hx t e]
      refine scatter_set_miss _ _ _ _ _ (fun k hk => ?_)
      idx_vars k
      obtain ⟨rfl, hn⟩ := (hl _ _).1 hk
      match k1 with
      | 0 => exact e0 hn.symm
      | 1 => exact e1 hn.symm

variable (V : Valuation τ sig (Elt Ideal))

/-- The layer's value for the arguments. -/
abbrev value (t : Fin 2048) (j : Fin 768) : EReal :=
  Spec.layer (fun t k => arg0 V (ix3 0 t k)) (arg1 V ix0) (fun j k => arg2 V (ix2 j k)) (fun e j => arg3 V (ix2 e j)) (fun e => arg4 V (ix1 e))
    (fun e h k => arg5 V (ix3 e h k)) (fun e j h => arg6 V (ix3 e j h)) t j

theorem hidden_at (t : Fin 2048) (e : Fin 8) (h : Fin 1536) :
    (show Vec Ideal S2048x8x1536 .f32 from res_main_v92 V) (ix3 t e h) = max (∑ k, arg0 V (ix3 0 t k) * arg5 V (ix3 e h k)) 0 := by
  pointwise [res_main_v92, res_main_v0]

/-- The index words of the scatter. -/
def places : IVec S2048x2x2 32 :=
  concatenate S2048x2x2 2 [⟨S2048x2x1, (broadcastInDim S2048x2x1 ![0, 1] bcast_S2048x2_S2048x2x1_0_1 (broadcastInDim S2048x2 ![0, 1] bcast_S2048x1_S2048x2_0_1 (select (cmpi .slt (res_main_v75 V) (broadcastInDim S2048x1 ![] bcast_S_S2048x1 (constantI S_ 32 0#32))) (addi (res_main_v75 V) (broadcastInDim S2048x1 ![] bcast_S_S2048x1 (constantI S_ 32 2048#32))) (res_main_v75 V))))⟩, ⟨S2048x2x1, (broadcastInDim S2048x2x1 ![0, 1] bcast_S2048x2_S2048x2x1_0_1 (select (cmpi .slt (res_main_indices V) (broadcastInDim S2048x2 ![] bcast_S_S2048x2 (constantI S_ 32 0#32))) (addi (res_main_indices V) (broadcastInDim S2048x2 ![] bcast_S_S2048x2 (constantI S_ 32 8#32))) (res_main_indices V)))⟩] concatenates_S2048x2x1_S2048x2x1_S2048x2x2_d2

theorem places_row (t : Fin 2048) (i : Fin 2) : (places V (ix3 t i 0)).toInt = t.val := by
  pointwise [places, res_main_v75]
  have hn : (BitVec.ofNat 32 t.val).toInt = (t.val : Int) := WordCmp.toInt_ofNat_of_lt (by omega)
  have hs : IntOp.cmpi CmpIPredicate.slt (BitVec.ofNat 32 t.val) 0#32 = 0#1 := by
    show BitVec.ofBool ((BitVec.ofNat 32 t.val).slt 0#32) = 0#1
    rw [BitVec.slt, hn, show (0#32 : BitVec 32).toInt = 0 from rfl, decide_eq_false (by omega)]
    rfl
  rw [hs]
  exact hn

theorem places_column (hd : -(2147483616 : Int) ≤ (arg1 V ix0).toInt) (t : Fin 2048) (i : Fin 2) : (places V (ix3 t i 1)).toInt = (chosen V t i).val := by
  have h : res_main_indices V (ix2 t i) = BitVec.ofNat 32 (chosen V t i).val := index_at V hd t i
  pointwise [places]
  rw [h, small]
  exact WordCmp.toInt_ofNat_of_lt (by omega)

/-- The two gates of a token, in the order of their places. -/
def pair : Vec Ideal S2048x2 .f32 :=
  Host.divf (res_main_v67 V) (broadcastInDim S2048x2 ![0, 1] bcast_S2048x1_S2048x2_0_1 (maximumf (broadcastInDim S2048x1 ![] bcast_S_S2048x1 (id (constant S_ .f32 0x3089705F#32))) (broadcastInDim S2048x1 ![0] bcast_S2048_S2048x1_0 (Host.reduceAdd (res_main_v67 V) (constant S_ .f32 0x00000000#32) reducesTo_S2048x2_S2048_d1 h_S_))))

theorem pair_at (hd : -(2147483616 : Int) ≤ (arg1 V ix0).toInt) (t : Fin 2048) (i : Fin 2) :
    pair V (ix2 t i) = Ideal.div (Ideal.logistic (score V t (chosen V t i)))
      (max (Ideal.logistic (score V t (chosen V t 0)) + Ideal.logistic (score V t (chosen V t 1))) (Ideal.ofBits .f32 0x3089705F#32)) := by
  have hv (i : Fin 2) : res_main_v67 V (ix2 t i) = Ideal.logistic (score V t (chosen V t i)) := value_at V hd t i
  pointwise [pair]
  rw [Fin.sum_univ_two, hv, hv, hv, max_comm]
  rfl

/-- The reference's result array. -/
def result : Vec Ideal S2048x768 .f32 :=
  Host.reduceAdd (mulf (transpose S2048x8x768 [2, 0, 1] (Host.dotGeneral (φ₁ := .f32) (φ₂ := .f32) dot_S8x768x1536_S2048x8x1536_S8x768x2048_2_2_1_0_0_1 none (V (Proc.devRef .tc main_arg6)) (mulf (res_main_v92 V) (res_main_v92 V))) transposes_S8x768x2048_S2048x8x768_2_0_1) (broadcastInDim S2048x8x768 ![0, 1, 2] bcast_S2048x8x1_S2048x8x768_0_1_2 (broadcastInDim S2048x8x1 ![0, 1] bcast_S2048x8_S2048x8x1_0_1 (Host.scatter scatter_S2048x8_S2048x2x2_S2048x2_n_01_01_2 (fun _ b => b) (broadcastInDim S2048x8 ![] bcast_S_S2048x8 (constant S_ .f32 0x00000000#32)) (places V) (pair V))))) (constant S_ .f32 0x00000000#32) reducesTo_S2048x8x768_S2048x768_d1 h_S_

/-- The gates written into their places: each expert's share of a token. -/
theorem gate_at (hd : -(2147483616 : Int) ≤ (arg1 V ix0).toInt) (t : Fin 2048) (e : Fin 8) :
    Host.scatter scatter_S2048x8_S2048x2x2_S2048x2_n_01_01_2 (fun _ b => b) (broadcastInDim S2048x8 ![] bcast_S_S2048x8 (constant (F := Ideal) S_ .f32 0x00000000#32))
        (places V) (pair V) (ix2 t e)
      = Spec.gate (fun t k => arg0 V (ix3 0 t k)) (arg1 V ix0) (fun j k => arg2 V (ix2 j k)) (fun e j => arg3 V (ix2 e j)) (fun e => arg4 V (ix1 e)) t e := by
  refine (put _ (places V) (pair V) (chosen V) (fun t e => ?_) (places_row V) (places_column V hd) (fun t h => ?_) t e).trans ?_
  · pointwise
  · exact absurd (congrArg Fin.val (sortedFrom_injective _ h)) (by decide)
  · rw [pair_at V hd, pair_at V hd]
    rfl

/-- The reference's result, position by position. -/
theorem result_at (hd : -(2147483616 : Int) ≤ (arg1 V ix0).toInt) (t : Fin 2048) (j : Fin 768) : result V (ix2 t j) = value V t j := by
  have hv (e : Fin 8) (h : Fin 1536) : res_main_v92 V (ix3 t e h) = max (∑ k, arg0 V (ix3 0 t k) * arg5 V (ix3 e h k)) 0 := hidden_at V t e h
  pointwise [result]
  refine Finset.sum_congr rfl fun e _ => ?_
  rw [mul_comm]
  refine congrArg₂ (· * ·) (gate_at V hd t e) (Finset.sum_congr rfl fun h _ => ?_)
  rw [hv, mul_comm]

end Cert.ReferenceIdeal.Read

end

end
-- ==== Proof.Value.Bounds.lean ====
/-
  What the precondition says of the arguments, element by element: every key is a real of bounded size, every bias is bounded below, and the depth is
  not so negative that counting it from the back wraps.
-/
module

public import proofs.«01_k».proof.Pre_router_bounded
public import proofs.«01_k».proof.Proof.Value.Consts
public import proofs.«01_k».proof.Proof.Value.Row
public import Idealize.ShloMosaic.Lib.Pointwise
public import Idealize.ShloMosaic.Lib.ReduceAll

@[expose] public section

noncomputable section

namespace Cert.Bounds

open Idealize.ShloMosaic Cert.Pre_router_bounded

/-- The side conditions of the precondition's operations. -/
theorem facts : Cert.Pre_router_bounded.Facts where
  bcast_S_S8x768 := by decide
  reducesTo_S8x768_S_d0_1 := by decide
  h_S_ := by decide
  bcast_S_S8 := by decide
  reducesTo_S8_S_d0 := by decide

instance : Cert.Pre_router_bounded.Facts := facts

instance : Subsingleton S_.Idx := ⟨fun a b => funext fun i => i.elim0⟩

/-- A number between two opposite reals is a real of at most that size. -/
theorem within_of_between {B : ℝ} {a : EReal} (h : a ≤ (B : EReal)) (l : ((-B : ℝ) : EReal) ≤ a) : Row.Within B a := by
  induction a with
  | bot => simp at l
  | top => simp at h
  | coe r => exact ⟨r, rfl, abs_le.mpr ⟨EReal.coe_le_coe_iff.mp l, EReal.coe_le_coe_iff.mp h⟩⟩

variable {a0 : Vec Ideal S1x2048x768 .f32} {a1 : IVec S_ 32} {a2 : Vec Ideal S768x768 .f32} {a3 : Vec Ideal S8x768 .f32} {a4 : Vec Ideal S8 .f32}
  {a5 : Vec Ideal S8x1536x768 .f32} {a6 : Vec Ideal S8x768x1536 .f32}

theorem ofBool_true {b : Bool} (h : BitVec.ofBool b = 1#1) : b = true := by cases b <;> simp_all

/-- The three conditions on the arguments. -/
theorem of_pre (h : Cert.Pre_router_bounded.fn (F := Ideal) a0 a1 a2 a3 a4 a5 a6 = fun _ => 1#1) :
    (∀ e j, Row.Within (2 ^ 86) (a3 (ix2 e j))) ∧ (∀ e, ((-(2 ^ 99) : ℝ) : EReal) ≤ a4 (ix1 e)) ∧ -(2147483616 : Int) ≤ (a1 ix0).toInt := by
  have h0 := congrFun h ix0
  unfold Cert.Pre_router_bounded.fn at h0
  obtain ⟨h12, h3⟩ := IntOp.andi_eq_one.1 h0
  obtain ⟨h1, h2⟩ := IntOp.andi_eq_one.1 h12
  refine ⟨fun e j => ?_, fun e => ?_, ?_⟩
  · obtain ⟨hu, hl⟩ := IntOp.andi_eq_one.1 (Host.reduce_andi_all _ _ _ _ _ h1 (ix2 e j))
    have hu' : a3 (ix2 e j) ≤ Ideal.ofBits .f32 0x6A800000#32 := of_decide_eq_true (ofBool_true hu)
    have hl' : Ideal.ofBits .f32 0xEA800000#32 ≤ a3 (ix2 e j) := of_decide_eq_true (ofBool_true hl)
    rw [Consts.key_high] at hu'
    rw [Consts.key_low] at hl'
    exact within_of_between hu' hl'
  · have hl := Host.reduce_andi_all _ _ _ _ _ h2 (ix1 e)
    have hl' : Ideal.ofBits .f32 0xF1000000#32 ≤ a4 (ix1 e) := of_decide_eq_true (ofBool_true hl)
    rw [Consts.bias_low] at hl'
    exact hl'
  · have hs : IntOp.cmpi .sge (a1 ix0) 2147483680#32 = 1#1 := h3
    have hs' := ofBool_true hs
    simpa [BitVec.sle] using hs'

end Cert.Bounds

end

end
-- ==== Proof.Value.Algebraic.lean ====
/- The kernel and the reference, run from equal arguments that the precondition holds of, end with equal results. -/
module

public import proofs.«01_k».proof.Defs
public import proofs.«01_k».proof.Proof.Value.KernelRead
public import proofs.«01_k».proof.Proof.Value.RefRead
public import proofs.«01_k».proof.Proof.Value.Bounds

@[expose] public section

set_option maxRecDepth 16384

noncomputable section

namespace Cert.Equal

open Idealize.ShloMosaic Idealize.ShloMosaic.TcCoe Idealize.SL.Sem
open Cert.KernelIdeal.Launched

/-- The reference's result array is the kernel's. -/
theorem results (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : KernelIdeal.Read.arg0 m c = ReferenceIdeal.Scores.arg0 (StableHlo.launchContents m' c))
    (h1 : KernelIdeal.Read.arg1 m c = ReferenceIdeal.Scores.arg1 (StableHlo.launchContents m' c))
    (h2 : KernelIdeal.Read.arg2 m c = ReferenceIdeal.Scores.arg2 (StableHlo.launchContents m' c))
    (h3 : KernelIdeal.Read.arg3 m c = ReferenceIdeal.Scores.arg3 (StableHlo.launchContents m' c))
    (h4 : KernelIdeal.Read.arg4 m c = ReferenceIdeal.Scores.arg4 (StableHlo.launchContents m' c))
    (h5 : KernelIdeal.Read.arg5 m c = ReferenceIdeal.Scores.arg5 (StableHlo.launchContents m' c))
    (h6 : KernelIdeal.Read.arg6 m c = ReferenceIdeal.Scores.arg6 (StableHlo.launchContents m' c))
    (hk : ∀ e j, Row.Within (2 ^ 86) (KernelIdeal.Read.arg3 m c (ix2 e j))) (hb : ∀ e, ((-(2 ^ 99) : ℝ) : EReal) ≤ KernelIdeal.Read.arg4 m c (ix1 e))
    (hd : -(2147483616 : Int) ≤ (KernelIdeal.Read.arg1 m c ix0).toInt) :
    ReferenceIdeal.Read.result (StableHlo.launchContents m' c)
      = (show Vec Ideal KernelIdeal.S2048x768 .f32 from mixed m c (Proc.devRef .tc KernelIdeal.main_v40)) := by
  funext y
  idx_vars y
  refine Eq.trans ?_ (KernelIdeal.Read.mixed_value m c hk hb _ _).symm
  rw [ReferenceIdeal.Read.result_at _ (h1 ▸ hd)]
  unfold KernelIdeal.Read.value ReferenceIdeal.Read.value
  rw [h0, h1, h2, h3, h4, h5, h6]

/-- From equal arguments within the bounds, both programs end with the same result and leave their arguments alone. -/
theorem algebraic : Cert.algebraic_KernelIdeal_ReferenceIdeal_pre_router_bounded (hKernelIdeal := KernelIdeal.Gen.facts)
    (hReferenceIdeal := ReferenceIdeal.Gen.facts) (hPre_router_bounded := Bounds.facts) := by
  intro m g m' g' hpre hargs
  refine ⟨fun c => mixed m c (Proc.devRef .tc KernelIdeal.main_v40), ?_, ?_⟩
  · refine (θ_run _ _ _).mono (fun r h c => ?_) (run m g)
    have hc := h.1 c
    exact ⟨hc _ (unscoped_mem _ (by decide)), arg_end m c hc _ (by decide) (by decide), arg_end m c hc _ (by decide) (by decide),
      arg_end m c hc _ (by decide) (by decide), arg_end m c hc _ (by decide) (by decide), arg_end m c hc _ (by decide) (by decide),
      arg_end m c hc _ (by decide) (by decide), arg_end m c hc _ (by decide) (by decide)⟩
  · refine (θ_run _ _ _).mono (fun r h c => ⟨(h c).1.trans ?_, (h c).2⟩) (ReferenceIdeal.Value.run m' g')
    obtain ⟨e0, e1, e2, e3, e4, e5, e6⟩ := hargs c
    obtain ⟨hk, hb, hd⟩ := Bounds.of_pre (hpre c)
    exact results m m' c e0.symm e1.symm e2.symm e3.symm e4.symm e5.symm e6.symm hk hb hd

end Cert.Equal

end

end
-- ==== Proof.lean ====
/- The certificate: each claim from the module that proves it. -/
module

public import proofs.«01_k».proof.Defs
public import proofs.«01_k».proof.Proof.Quiet
public import proofs.«01_k».proof.Proof.Value.Algebraic

@[expose] public section

noncomputable section

namespace Cert.Proof

open Idealize.ShloMosaic Idealize.SL.Sem

/-- The named constant's nearest `f32` is the word the kernel holds. -/
theorem preserves : Cert.preserves_Kernel_KernelIdeal :=
  IdealRules.named_const.statement Cert.KernelIdeal.κ "inv_sqrt_dim" .f32 0x3D13CD3A#32 _ rfl

theorem claim : Cert.Claim := ⟨Cert.Kernel.Gen.facts, Cert.KernelIdeal.Gen.facts, Cert.ReferenceIdeal.Gen.facts, Bounds.facts,
  Quiet.kernel, Quiet.kernelIdeal, fun m g _ => Quiet.kernelIdeal m g trivial, Quiet.referenceIdeal, fun m g _ => Quiet.referenceIdeal m g trivial,
  preserves, Equal.algebraic⟩

end Cert.Proof

end
